-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x2048x1024 : Shape := ⟨3, ![1, 2048, 1024]⟩
abbrev S1024x8 : Shape := ⟨2, ![1024, 8]⟩
abbrev S8x1024x2752 : Shape := ⟨3, ![8, 1024, 2752]⟩
abbrev S8x2752x1024 : Shape := ⟨3, ![8, 2752, 1024]⟩
abbrev S_ : Shape := ⟨0, ![]⟩

class Facts : Prop where
  bcast_S_S1x2048x1024 : S_.BroadcastsInDim S1x2048x1024 (![] : Fin 0 → Fin S1x2048x1024.rank)
  bcast_S_S1024x8 : S_.BroadcastsInDim S1024x8 (![] : Fin 0 → Fin S1024x8.rank)

variable [Facts]

def fn {F : FTy → Type} [FloatOps F] (main_arg0 : FVec F S1x2048x1024 .f32) (main_arg1 : FVec F S1024x8 .f32) (main_arg2 : FVec F S8x1024x2752 .f32) (main_arg3 : FVec F S8x1024x2752 .f32) (main_arg4 : FVec F S8x2752x1024 .f32) : IVec S1x2048x1024 1 × IVec S1024x8 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Kernel.lean ====
abbrev S1x2048x1024 : Shape := ⟨3, ![1, 2048, 1024]⟩
abbrev S1024x8 : Shape := ⟨2, ![1024, 8]⟩
abbrev S8x1024x2752 : Shape := ⟨3, ![8, 1024, 2752]⟩
abbrev S8x2752x1024 : Shape := ⟨3, ![8, 2752, 1024]⟩
abbrev S2048x1024 : Shape := ⟨2, ![2048, 1024]⟩
abbrev S2048x8 : Shape := ⟨2, ![2048, 8]⟩
abbrev S1x1 : Shape := ⟨2, ![1, 1]⟩
abbrev S1x2048x8 : Shape := ⟨3, ![1, 2048, 8]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S256x256 : Shape := ⟨2, ![256, 256]⟩
abbrev S1x8 : Shape := ⟨2, ![1, 8]⟩
abbrev S256x8 : Shape := ⟨2, ![256, 8]⟩
abbrev S256x1 : Shape := ⟨2, ![256, 1]⟩
abbrev S8 : Shape := ⟨1, ![8]⟩
abbrev S1x1x8 : Shape := ⟨3, ![1, 1, 8]⟩
abbrev S1x1024x1408 : Shape := ⟨3, ![1, 1024, 1408]⟩
abbrev S1x1408x1024 : Shape := ⟨3, ![1, 1408, 1024]⟩
abbrev S256x1408 : Shape := ⟨2, ![256, 1408]⟩
abbrev S1408x1024 : Shape := ⟨2, ![1408, 1024]⟩
abbrev S1024x1408 : Shape := ⟨2, ![1024, 1408]⟩
abbrev S256x1024 : Shape := ⟨2, ![256, 1024]⟩
abbrev S_ : Shape := ⟨0, ![]⟩

abbrev nBuf : Space → Nat
  | .hbm => 14
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x2752, .f32⟩
  | .hbm, ⟨3, _⟩ => ⟨S8x1024x2752, .f32⟩
  | .hbm, ⟨4, _⟩ => ⟨S8x2752x1024, .f32⟩
  | .hbm, ⟨5, _⟩ => ⟨S2048x1024, .f32⟩
  | .hbm, ⟨6, _⟩ => ⟨S2048x8, .f32⟩
  | .hbm, ⟨7, _⟩ => ⟨S1x1, .f32⟩
  | .hbm, ⟨8, _⟩ => ⟨S1x1, .f32⟩
  | .hbm, ⟨9, _⟩ => ⟨S2048x1024, .bf16⟩
  | .hbm, ⟨10, _⟩ => ⟨S2048x1024, .f32⟩
  | .hbm, ⟨11, _⟩ => ⟨S1x2048x1024, .f32⟩
  | .hbm, ⟨12, _⟩ => ⟨S_, .f32⟩
  | .hbm, ⟨13, _⟩ => ⟨S_, .f32⟩
  | .local _ .vmem, ⟨0, _⟩ => ⟨S2048x1024, .f32⟩
  | .local _ .vmem, ⟨1, _⟩ => ⟨S1024x8, .f32⟩
  | .local _ .vmem, ⟨2, _⟩ => ⟨S2048x8, .f32⟩
  | .local _ .vmem, ⟨3, _⟩ => ⟨S1x1, .f32⟩
  | .local _ .vmem, ⟨4, _⟩ => ⟨S1x1, .f32⟩
  | .local _ .vmem, ⟨5, _⟩ => ⟨S2048x8, .f32⟩
  | .local _ .vmem, ⟨6, _⟩ => ⟨S2048x1024, .bf16⟩
  | .local _ .vmem, ⟨7, _⟩ => ⟨S1x1024x1408, .f32⟩
  | .local _ .vmem, ⟨8, _⟩ => ⟨S1x1024x1408, .f32⟩
  | .local _ .vmem, ⟨9, _⟩ => ⟨S1x1024x1408, .f32⟩
  | .local _ .vmem, ⟨10, _⟩ => ⟨S1x1024x1408, .f32⟩
  | .local _ .vmem, ⟨11, _⟩ => ⟨S1x1408x1024, .f32⟩
  | .local _ .vmem, ⟨12, _⟩ => ⟨S1x1408x1024, .f32⟩
  | .local _ .vmem, ⟨13, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1408x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S2048x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]
-- ==== ReferenceIdeal.lean ====
abbrev S1x2048x1024 : Shape := ⟨3, ![1, 2048, 1024]⟩
abbrev S1024x8 : Shape := ⟨2, ![1024, 8]⟩
abbrev S8x1024x2752 : Shape := ⟨3, ![8, 1024, 2752]⟩
abbrev S8x2752x1024 : Shape := ⟨3, ![8, 2752, 1024]⟩
abbrev S2048x1024 : Shape := ⟨2, ![2048, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S8 : Shape := ⟨1, ![8]⟩
abbrev S1x8 : Shape := ⟨2, ![1, 8]⟩
abbrev S2048x8x1 : Shape := ⟨3, ![2048, 8, 1]⟩
abbrev S2048x8x2 : Shape := ⟨3, ![2048, 8, 2]⟩
abbrev S1x1024x2752 : Shape := ⟨3, ![1, 1024, 2752]⟩
abbrev S1024x2752 : Shape := ⟨2, ![1024, 2752]⟩
abbrev S2048x2752 : Shape := ⟨2, ![2048, 2752]⟩
abbrev S1x2752x1024 : Shape := ⟨3, ![1, 2752, 1024]⟩
abbrev S2752x1024 : Shape := ⟨2, ![2752, 1024]⟩

abbrev nBuf : Space → Nat
  | .hbm => 303
  | .vmem => 0
  | .smem => 0
  | _ => 0

abbrev hbmTy0_0 (i : Nat) : BufTy := match i % 128 with
  | 0 => ⟨S1x2048x1024, .f32⟩
  | 1 => ⟨S1024x8, .f32⟩
  | 2 => ⟨S8x1024x2752, .f32⟩
  | 3 => ⟨S8x1024x2752, .f32⟩
  | 4 => ⟨S8x2752x1024, .f32⟩
  | 5 => ⟨S2048x1024, .f32⟩
  | 6 => ⟨S2048x8, .f32⟩
  | 7 => ⟨S_, .f32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x8, .f32⟩
  | 14 => ⟨S2048x8, .f32⟩
  | 15 => ⟨S2048x8, .f32⟩
  | 16 => ⟨S_, .f32⟩
  | 17 => ⟨S2048, .f32⟩
  | 18 => ⟨S2048x1, .f32⟩
  | 19 => ⟨S2048x8, .f32⟩
  | 20 => ⟨S2048x8, .f32⟩
  | 21 => ⟨S2048x2, .f32⟩
  | 22 => ⟨S2048x2, .i32⟩
  | 23 => ⟨S_, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S2048x1, .i32⟩
  | 31 => ⟨S2048, .i32⟩
  | 32 => ⟨S_, .i32⟩
  | 33 => ⟨S2048, .i32⟩
  | 34 => ⟨S2048, .i1⟩
  | 35 => ⟨S_, .i32⟩
  | 36 => ⟨S2048, .i32⟩
  | 37 => ⟨S2048, .i32⟩
  | 38 => ⟨S2048, .i32⟩
  | 39 => ⟨S2048x1, .i32⟩
  | 40 => ⟨S_, .f32⟩
  | 41 => ⟨S2048, .f32⟩
  | 42 => ⟨S8, .f32⟩
  | 43 => ⟨S8, .f32⟩
  | 44 => ⟨S_, .f32⟩
  | 45 => ⟨S_, .f32⟩
  | 46 => ⟨S_, .f32⟩
  | 47 => ⟨S_, .f32⟩
  | 48 => ⟨S2048x8, .f32⟩
  | 49 => ⟨S_, .f32⟩
  | 50 => ⟨S_, .f32⟩
  | 51 => ⟨S_, .f32⟩
  | 52 => ⟨S_, .f32⟩
  | 53 => ⟨S2048x1, .i32⟩
  | 54 => ⟨S2048, .i32⟩
  | 55 => ⟨S2048x1, .i32⟩
  | 56 => ⟨S1x8, .i32⟩
  | 57 => ⟨S2048x8, .i32⟩
  | 58 => ⟨S2048x8, .i32⟩
  | 59 => ⟨S2048x8, .i1⟩
  | 60 => ⟨S2048x8, .i32⟩
  | 61 => ⟨S_, .i32⟩
  | 62 => ⟨S_, .i32⟩
  | 63 => ⟨S2048x8, .i32⟩
  | 64 => ⟨S_, .i32⟩
  | 65 => ⟨S2048x8, .i32⟩
  | 66 => ⟨S2048x8, .i32⟩
  | 67 => ⟨S_, .i32⟩
  | 68 => ⟨S2048x8, .i32⟩
  | 69 => ⟨S2048x8, .i1⟩
  | 70 => ⟨S_, .i32⟩
  | 71 => ⟨S2048x8, .i32⟩
  | 72 => ⟨S2048x8, .i1⟩
  | 73 => ⟨S2048x8, .i1⟩
  | 74 => ⟨S2048x1, .f32⟩
  | 75 => ⟨S2048, .f32⟩
  | 76 => ⟨S2048x1, .f32⟩
  | 77 => ⟨S_, .f32⟩
  | 78 => ⟨S_, .f32⟩
  | 79 => ⟨S2048x8, .f32⟩
  | 80 => ⟨S2048x8, .f32⟩
  | 81 => ⟨S2048x8, .f32⟩
  | 82 => ⟨S2048x1, .i32⟩
  | 83 => ⟨S2048, .i32⟩
  | 84 => ⟨S2048x1, .i32⟩
  | 85 => ⟨S1x8, .i32⟩
  | 86 => ⟨S2048x8, .i32⟩
  | 87 => ⟨S2048x8, .i32⟩
  | 88 => ⟨S2048x8, .i1⟩
  | 89 => ⟨S2048x8, .i32⟩
  | 90 => ⟨S_, .i32⟩
  | 91 => ⟨S_, .i32⟩
  | 92 => ⟨S2048x8, .i32⟩
  | 93 => ⟨S_, .i32⟩
  | 94 => ⟨S2048x8, .i32⟩
  | 95 => ⟨S2048x8, .i32⟩
  | 96 => ⟨S_, .i32⟩
  | 97 => ⟨S2048x8, .i32⟩
  | 98 => ⟨S2048x8, .i1⟩
  | 99 => ⟨S_, .i32⟩
  | 100 => ⟨S2048x8, .i32⟩
  | 101 => ⟨S2048x8, .i1⟩
  | 102 => ⟨S2048x8, .i1⟩
  | 103 => ⟨S2048x1, .f32⟩
  | 104 => ⟨S2048, .f32⟩
  | 105 => ⟨S2048x1, .f32⟩
  | 106 => ⟨S_, .f32⟩
  | 107 => ⟨S_, .f32⟩
  | 108 => ⟨S2048x8, .f32⟩
  | 109 => ⟨S2048x8, .f32⟩
  | 110 => ⟨S2048x8, .f32⟩
  | 111 => ⟨S2048x8x1, .f32⟩
  | 112 => ⟨S2048x8x1, .f32⟩
  | 113 => ⟨S2048x8x2, .f32⟩
  | 114 => ⟨S_, .f32⟩
  | 115 => ⟨S2048x8, .f32⟩
  | 116 => ⟨S_, .f32⟩
  | 117 => ⟨S2048x1024, .f32⟩
  | 118 => ⟨S1x1024x2752, .f32⟩
  | 119 => ⟨S1024x2752, .f32⟩
  | 120 => ⟨S2048x2752, .f32⟩
  | 121 => ⟨S2048x2752, .f32⟩
  | 122 => ⟨S2048x2752, .f32⟩
  | 123 => ⟨S_, .f32⟩
  | 124 => ⟨S2048x2752, .f32⟩
  | 125 => ⟨S2048x2752, .f32⟩
  | 126 => ⟨S_, .f32⟩
  | 127 => ⟨S2048x2752, .f32⟩
  | _ => ⟨S1x2048x1024, .f32⟩

abbrev hbmTy0_1 (i : Nat) : BufTy := match i % 128 with
  | 0 => ⟨S2048x2752, .f32⟩
  | 1 => ⟨S2048x2752, .f32⟩
  | 2 => ⟨S1x1024x2752, .f32⟩
  | 3 => ⟨S1024x2752, .f32⟩
  | 4 => ⟨S2048x2752, .f32⟩
  | 5 => ⟨S2048x2752, .f32⟩
  | 6 => ⟨S1x2752x1024, .f32⟩
  | 7 => ⟨S2752x1024, .f32⟩
  | 8 => ⟨S2048x1024, .f32⟩
  | 9 => ⟨S2048x1, .f32⟩
  | 10 => ⟨S2048x1024, .f32⟩
  | 11 => ⟨S2048x1024, .f32⟩
  | 12 => ⟨S2048x1024, .f32⟩
  | 13 => ⟨S1x1024x2752, .f32⟩
  | 14 => ⟨S1024x2752, .f32⟩
  | 15 => ⟨S2048x2752, .f32⟩
  | 16 => ⟨S2048x2752, .f32⟩
  | 17 => ⟨S2048x2752, .f32⟩
  | 18 => ⟨S_, .f32⟩
  | 19 => ⟨S2048x2752, .f32⟩
  | 20 => ⟨S2048x2752, .f32⟩
  | 21 => ⟨S_, .f32⟩
  | 22 => ⟨S2048x2752, .f32⟩
  | 23 => ⟨S2048x2752, .f32⟩
  | 24 => ⟨S2048x2752, .f32⟩
  | 25 => ⟨S1x1024x2752, .f32⟩
  | 26 => ⟨S1024x2752, .f32⟩
  | 27 => ⟨S2048x2752, .f32⟩
  | 28 => ⟨S2048x2752, .f32⟩
  | 29 => ⟨S1x2752x1024, .f32⟩
  | 30 => ⟨S2752x1024, .f32⟩
  | 31 => ⟨S2048x1024, .f32⟩
  | 32 => ⟨S2048x1, .f32⟩
  | 33 => ⟨S2048x1024, .f32⟩
  | 34 => ⟨S2048x1024, .f32⟩
  | 35 => ⟨S2048x1024, .f32⟩
  | 36 => ⟨S1x1024x2752, .f32⟩
  | 37 => ⟨S1024x2752, .f32⟩
  | 38 => ⟨S2048x2752, .f32⟩
  | 39 => ⟨S2048x2752, .f32⟩
  | 40 => ⟨S2048x2752, .f32⟩
  | 41 => ⟨S_, .f32⟩
  | 42 => ⟨S2048x2752, .f32⟩
  | 43 => ⟨S2048x2752, .f32⟩
  | 44 => ⟨S_, .f32⟩
  | 45 => ⟨S2048x2752, .f32⟩
  | 46 => ⟨S2048x2752, .f32⟩
  | 47 => ⟨S2048x2752, .f32⟩
  | 48 => ⟨S1x1024x2752, .f32⟩
  | 49 => ⟨S1024x2752, .f32⟩
  | 50 => ⟨S2048x2752, .f32⟩
  | 51 => ⟨S2048x2752, .f32⟩
  | 52 => ⟨S1x2752x1024, .f32⟩
  | 53 => ⟨S2752x1024, .f32⟩
  | 54 => ⟨S2048x1024, .f32⟩
  | 55 => ⟨S2048x1, .f32⟩
  | 56 => ⟨S2048x1024, .f32⟩
  | 57 => ⟨S2048x1024, .f32⟩
  | 58 => ⟨S2048x1024, .f32⟩
  | 59 => ⟨S1x1024x2752, .f32⟩
  | 60 => ⟨S1024x2752, .f32⟩
  | 61 => ⟨S2048x2752, .f32⟩
  | 62 => ⟨S2048x2752, .f32⟩
  | 63 => ⟨S2048x2752, .f32⟩
  | 64 => ⟨S_, .f32⟩
  | 65 => ⟨S2048x2752, .f32⟩
  | 66 => ⟨S2048x2752, .f32⟩
  | 67 => ⟨S_, .f32⟩
  | 68 => ⟨S2048x2752, .f32⟩
  | 69 => ⟨S2048x2752, .f32⟩
  | 70 => ⟨S2048x2752, .f32⟩
  | 71 => ⟨S1x1024x2752, .f32⟩
  | 72 => ⟨S1024x2752, .f32⟩
  | 73 => ⟨S2048x2752, .f32⟩
  | 74 => ⟨S2048x2752, .f32⟩
  | 75 => ⟨S1x2752x1024, .f32⟩
  | 76 => ⟨S2752x1024, .f32⟩
  | 77 => ⟨S2048x1024, .f32⟩
  | 78 => ⟨S2048x1, .f32⟩
  | 79 => ⟨S2048x1024, .f32⟩
  | 80 => ⟨S2048x1024, .f32⟩
  | 81 => ⟨S2048x1024, .f32⟩
  | 82 => ⟨S1x1024x2752, .f32⟩
  | 83 => ⟨S1024x2752, .f32⟩
  | 84 => ⟨S2048x2752, .f32⟩
  | 85 => ⟨S2048x2752, .f32⟩
  | 86 => ⟨S2048x2752, .f32⟩
  | 87 => ⟨S_, .f32⟩
  | 88 => ⟨S2048x2752, .f32⟩
  | 89 => ⟨S2048x2752, .f32⟩
  | 90 => ⟨S_, .f32⟩
  | 91 => ⟨S2048x2752, .f32⟩
  | 92 => ⟨S2048x2752, .f32⟩
  | 93 => ⟨S2048x2752, .f32⟩
  | 94 => ⟨S1x1024x2752, .f32⟩
  | 95 => ⟨S1024x2752, .f32⟩
  | 96 => ⟨S2048x2752, .f32⟩
  | 97 => ⟨S2048x2752, .f32⟩
  | 98 => ⟨S1x2752x1024, .f32⟩
  | 99 => ⟨S2752x1024, .f32⟩
  | 100 => ⟨S2048x1024, .f32⟩
  | 101 => ⟨S2048x1, .f32⟩
  | 102 => ⟨S2048x1024, .f32⟩
  | 103 => ⟨S2048x1024, .f32⟩
  | 104 => ⟨S2048x1024, .f32⟩
  | 105 => ⟨S1x1024x2752, .f32⟩
  | 106 => ⟨S1024x2752, .f32⟩
  | 107 => ⟨S2048x2752, .f32⟩
  | 108 => ⟨S2048x2752, .f32⟩
  | 109 => ⟨S2048x2752, .f32⟩
  | 110 => ⟨S_, .f32⟩
  | 111 => ⟨S2048x2752, .f32⟩
  | 112 => ⟨S2048x2752, .f32⟩
  | 113 => ⟨S_, .f32⟩
  | 114 => ⟨S2048x2752, .f32⟩
  | 115 => ⟨S2048x2752, .f32⟩
  | 116 => ⟨S2048x2752, .f32⟩
  | 117 => ⟨S1x1024x2752, .f32⟩
  | 118 => ⟨S1024x2752, .f32⟩
  | 119 => ⟨S2048x2752, .f32⟩
  | 120 => ⟨S2048x2752, .f32⟩
  | 121 => ⟨S1x2752x1024, .f32⟩
  | 122 => ⟨S2752x1024, .f32⟩
  | 123 => ⟨S2048x1024, .f32⟩
  | 124 => ⟨S2048x1, .f32⟩
  | 125 => ⟨S2048x1024, .f32⟩
  | 126 => ⟨S2048x1024, .f32⟩
  | 127 => ⟨S2048x1024, .f32⟩
  | _ => ⟨S1x2048x1024, .f32⟩

abbrev hbmTy0_2 (i : Nat) : BufTy := match i % 128 with
  | 0 => ⟨S1x1024x2752, .f32⟩
  | 1 => ⟨S1024x2752, .f32⟩
  | 2 => ⟨S2048x2752, .f32⟩
  | 3 => ⟨S2048x2752, .f32⟩
  | 4 => ⟨S2048x2752, .f32⟩
  | 5 => ⟨S_, .f32⟩
  | 6 => ⟨S2048x2752, .f32⟩
  | 7 => ⟨S2048x2752, .f32⟩
  | 8 => ⟨S_, .f32⟩
  | 9 => ⟨S2048x2752, .f32⟩
  | 10 => ⟨S2048x2752, .f32⟩
  | 11 => ⟨S2048x2752, .f32⟩
  | 12 => ⟨S1x1024x2752, .f32⟩
  | 13 => ⟨S1024x2752, .f32⟩
  | 14 => ⟨S2048x2752, .f32⟩
  | 15 => ⟨S2048x2752, .f32⟩
  | 16 => ⟨S1x2752x1024, .f32⟩
  | 17 => ⟨S2752x1024, .f32⟩
  | 18 => ⟨S2048x1024, .f32⟩
  | 19 => ⟨S2048x1, .f32⟩
  | 20 => ⟨S2048x1024, .f32⟩
  | 21 => ⟨S2048x1024, .f32⟩
  | 22 => ⟨S2048x1024, .f32⟩
  | 23 => ⟨S1x1024x2752, .f32⟩
  | 24 => ⟨S1024x2752, .f32⟩
  | 25 => ⟨S2048x2752, .f32⟩
  | 26 => ⟨S2048x2752, .f32⟩
  | 27 => ⟨S2048x2752, .f32⟩
  | 28 => ⟨S_, .f32⟩
  | 29 => ⟨S2048x2752, .f32⟩
  | 30 => ⟨S2048x2752, .f32⟩
  | 31 => ⟨S_, .f32⟩
  | 32 => ⟨S2048x2752, .f32⟩
  | 33 => ⟨S2048x2752, .f32⟩
  | 34 => ⟨S2048x2752, .f32⟩
  | 35 => ⟨S1x1024x2752, .f32⟩
  | 36 => ⟨S1024x2752, .f32⟩
  | 37 => ⟨S2048x2752, .f32⟩
  | 38 => ⟨S2048x2752, .f32⟩
  | 39 => ⟨S1x2752x1024, .f32⟩
  | 40 => ⟨S2752x1024, .f32⟩
  | 41 => ⟨S2048x1024, .f32⟩
  | 42 => ⟨S2048x1, .f32⟩
  | 43 => ⟨S2048x1024, .f32⟩
  | 44 => ⟨S2048x1024, .f32⟩
  | 45 => ⟨S2048x1024, .f32⟩
  | 46 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v35 : Ref sig .tc := ⟨.hbm, 60, rfl⟩
abbrev main_call1_call0_c : Ref sig .tc := ⟨.hbm, 61, rfl⟩
abbrev main_call1_call0_v0 : Ref sig .tc := ⟨.hbm, 62, rfl⟩
abbrev main_v36 : Ref sig .tc := ⟨.hbm, 63, rfl⟩
abbrev main_c_11 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_c_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_14 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v50 : Ref sig .tc := ⟨.hbm, 89, rfl⟩
abbrev main_call4_call0_c : Ref sig .tc := ⟨.hbm, 90, rfl⟩
abbrev main_call4_call0_v0 : Ref sig .tc := ⟨.hbm, 91, rfl⟩
abbrev main_v51 : Ref sig .tc := ⟨.hbm, 92, rfl⟩
abbrev main_c_15 : Ref sig .tc := ⟨.hbm, 93, rfl⟩
abbrev main_v52 : Ref sig .tc := ⟨.hbm, 94, rfl⟩
abbrev main_v53 : Ref sig .tc := ⟨.hbm, 95, rfl⟩
abbrev main_c_16 : Ref sig .tc := ⟨.hbm, 96, rfl⟩
abbrev main_v54 : Ref sig .tc := ⟨.hbm, 97, rfl⟩
abbrev main_v55 : Ref sig .tc := ⟨.hbm, 98, rfl⟩
abbrev main_c_17 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_18 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_19 : Ref sig .tc := ⟨.hbm, 114, rfl⟩
abbrev main_v66 : Ref sig .tc := ⟨.hbm, 115, rfl⟩
abbrev main_cst_20 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_call11_v0 : Ref sig .tc := ⟨.hbm, 236, rfl⟩
abbrev main_call11_v1 : Ref sig .tc := ⟨.hbm, 237, rfl⟩
abbrev main_call11_cst : Ref sig .tc := ⟨.hbm, 238, rfl⟩
abbrev main_call11_v2 : Ref sig .tc := ⟨.hbm, 239, rfl⟩
abbrev main_call11_v3 : Ref sig .tc := ⟨.hbm, 240, rfl⟩
abbrev main_call11_cst_0 : Ref sig .tc := ⟨.hbm, 241, rfl⟩
abbrev main_call11_v4 : Ref sig .tc := ⟨.hbm, 242, rfl⟩
abbrev main_call11_v5 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_call12_v0 : Ref sig .tc := ⟨.hbm, 259, rfl⟩
abbrev main_call12_v1 : Ref sig .tc := ⟨.hbm, 260, rfl⟩
abbrev main_call12_cst : Ref sig .tc := ⟨.hbm, 261, rfl⟩
abbrev main_call12_v2 : Ref sig .tc := ⟨.hbm, 262, rfl⟩
abbrev main_call12_v3 : Ref sig .tc := ⟨.hbm, 263, rfl⟩
abbrev main_call12_cst_0 : Ref sig .tc := ⟨.hbm, 264, rfl⟩
abbrev main_call12_v4 : Ref sig .tc := ⟨.hbm, 265, rfl⟩
abbrev main_call12_v5 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_call13_v0 : Ref sig .tc := ⟨.hbm, 282, rfl⟩
abbrev main_call13_v1 : Ref sig .tc := ⟨.hbm, 283, rfl⟩
abbrev main_call13_cst : Ref sig .tc := ⟨.hbm, 284, rfl⟩
abbrev main_call13_v2 : Ref sig .tc := ⟨.hbm, 285, rfl⟩
abbrev main_call13_v3 : Ref sig .tc := ⟨.hbm, 286, rfl⟩
abbrev main_call13_cst_0 : Ref sig .tc := ⟨.hbm, 287, rfl⟩
abbrev main_call13_v4 : Ref sig .tc := ⟨.hbm, 288, rfl⟩
abbrev main_call13_v5 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩

abbrev nD : Nat := 1
abbrev τ : Topo := Topo.v7x

variable {F : FTy → Type} [FloatOps F]
-- ==== Proof.KernelIdeal.Spec.lean ====
/-
  What the two kernel bodies leave in their result blocks, as functions of what they find in their operand blocks:
  the router's three results (`routerWe`, `routerAux`, `routerZ`) and the feed-forward body's accumulator
  (`ffnOut`), each written with one function per row chunk.
-/
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value

@[expose] public section

noncomputable section

namespace Cert.KernelIdeal.Body

open Cert.KernelIdeal Cert.KernelIdeal.Gen
open Idealize.ShloMosaic

variable {F : FTy → Type} [FloatOps F]

/-! ## The router's body -/

/-- The column number of each entry of a token-by-expert array. -/
def laneIx : IVec S2048x8 32 := iota .tc S2048x8 32 [1] iota_S2048x8_d1_w32

/-- The indicator of each token's second expert. -/
def oh2 (x : Vec F S2048x1024 .f32) (wr : Vec F S1024x8 .f32) : FVec F S2048x8 .f32 :=
  k0_pay11 laneIx (k0_pay10 x wr) 8#32

/-- The column counts after one more chunk of rows, from offset `off`. -/
def accStep (off : Fin 2 → ℕ) (h : S2048x8.Slices off S256x8) (o : FVec F S2048x8 .f32) (acc : FVec F S1x8 .f32) :
    FVec F S1x8 .f32 :=
  addf acc (shapeCast S1x8 (multiReduction .add [0] S8 (extractStridedSlice S256x8 off o h) 0x00000000#32 reduces_S256x8_S8 (.inl rfl) rfl) shapeCasts_S8_S1x8)

/-- Inclusive running counts within one chunk of rows: the lower triangle times the chunk, plus the counts before. -/
def cumChunk (off : Fin 2 → ℕ) (h : S2048x8.Slices off S256x8) (o : FVec F S2048x8 .f32) (acc : FVec F S1x8 .f32) :
    FVec F S256x8 .f32 :=
  addf (matmul dot_S256x256_S256x8_S256x8_1_0_0_1_n_n (some .fp32) (k0_pay12 (F := F)) (extractStridedSlice S256x8 off o h)
      (constant S256x8 .f32 0x00000000#32))
    (broadcastTo S256x8 acc broadcasts_S1x8_S256x8)

/-- Which entries of a chunk are kept: the indicator is set and the running count is within the capacity. -/
def keepChunk (off : Fin 2 → ℕ) (h : S2048x8.Slices off S256x8) (o : FVec F S2048x8 .f32) (acc : FVec F S1x8 .f32) :
    IVec S256x8 1 :=
  andi (cmpf .ogt (extractStridedSlice S256x8 off o h) (broadcast S256x8 (Scalar.ofBits .f32 0x00000000#32)))
    (cmpf .ole (cumChunk off h o acc) (broadcast S256x8 (Scalar.ofBits .f32 0x44200000#32)))

/-- A chunk of kept gate values: the column's value where kept, zero elsewhere. -/
def pickChunk (off : Fin 2 → ℕ) (h : S2048x8.Slices off S256x8) (h' : S2048x1.Slices off S256x1) (o : FVec F S2048x8 .f32)
    (acc : FVec F S1x8 .f32) (v : FVec F S2048x1 .f32) : FVec F S256x8 .f32 :=
  select (keepChunk off h o acc)
    (broadcastTo S256x8 (shapeCast S256x1 (extractStridedSlice S256x1 off v h') shapeCasts_S256x1_S256x1) broadcasts_S256x1_S256x8)
    (broadcast S256x8 (Scalar.ofBits .f32 0x00000000#32))

/-- One chunk of the router's weights: the first expert's kept gate plus the second's. -/
def weChunk (off : Fin 2 → ℕ) (h : S2048x8.Slices off S256x8) (h' : S2048x1.Slices off S256x1)
    (o1 o2 : FVec F S2048x8 .f32) (a1 a2 : FVec F S1x8 .f32) (v1 v2 : FVec F S2048x1 .f32) : FVec F S256x8 .f32 :=
  addf (pickChunk off h h' o1 a1 v1) (pickChunk off h h' o2 a2 v2)

/-- The offset of row chunk `k`. -/
abbrev offR (k : ℕ) : Fin 2 → ℕ := ![256 * k, 0]

theorem slicesR (k : ℕ) (hk : k < 8) : S2048x8.Slices (offR k) S256x8 :=
  ⟨rfl, fun a => by fin_cases a <;> simp [S2048x8, S256x8] <;> omega⟩
theorem slicesC (k : ℕ) (hk : k < 8) : S2048x1.Slices (offR k) S256x1 :=
  ⟨rfl, fun a => by fin_cases a <;> simp [S2048x1, S256x1] <;> omega⟩

/-- The column counts of the first `k` chunks. -/
def accAt (o : FVec F S2048x8 .f32) : ℕ → FVec F S1x8 .f32
  | 0 => broadcast S1x8 (Scalar.ofBits .f32 0x00000000#32)
  | k + 1 => if h : k < 8 then accStep (offR k) (slicesR k h) o (accAt o k) else accAt o k

/-- The router's weights on row chunk `k`. -/
def weAt (x : Vec F S2048x1024 .f32) (wr : Vec F S1024x8 .f32) (k : ℕ) (hk : k < 8) : FVec F S256x8 .f32 :=
  weChunk (offR k) (slicesR k hk) (slicesC k hk) (k0_pay7 x wr) (oh2 x wr) (accAt (k0_pay7 x wr) k) (accAt (oh2 x wr) k)
    (k0_pay5 x wr) (k0_pay9 x wr)

/-- The stores of the router's weights, last first. -/
def wePieces (x : Vec F S2048x1024 .f32) (wr : Vec F S1024x8 .f32) : List (View.Piece (Elt F) S2048x8 .f32) :=
  [⟨Rect.unit ![1792, 0] S256x8.size inb_S2048x8_S256x8_1792_0, weAt x wr 7 (by decide)⟩,
   ⟨Rect.unit ![1536, 0] S256x8.size inb_S2048x8_S256x8_1536_0, weAt x wr 6 (by decide)⟩,
   ⟨Rect.unit ![1280, 0] S256x8.size inb_S2048x8_S256x8_1280_0, weAt x wr 5 (by decide)⟩,
   ⟨Rect.unit ![1024, 0] S256x8.size inb_S2048x8_S256x8_1024_0, weAt x wr 4 (by decide)⟩,
   ⟨Rect.unit ![768, 0] S256x8.size inb_S2048x8_S256x8_768_0, weAt x wr 3 (by decide)⟩,
   ⟨Rect.unit ![512, 0] S256x8.size inb_S2048x8_S256x8_512_0, weAt x wr 2 (by decide)⟩,
   ⟨Rect.unit ![256, 0] S256x8.size inb_S2048x8_S256x8_256_0, weAt x wr 1 (by decide)⟩,
   ⟨Rect.unit ![0, 0] S256x8.size inb_S2048x8_S256x8_0_0, weAt x wr 0 (by decide)⟩]

/-- The router's weights, token by expert. -/
def routerWe (x : Vec F S2048x1024 .f32) (wr : Vec F S1024x8 .f32) : S2048x8.Idx → Elt F .f32 :=
  View.canon (wePieces x wr)

/-- The load-balance loss. -/
def routerAux (x : Vec F S2048x1024 .f32) (wr : Vec F S1024x8 .f32) : FVec F S1x1 .f32 :=
  k0_pay1 (k0_pay60 (k0_pay4 x wr) (k0_pay7 x wr) (accAt (k0_pay7 x wr) 7))

/-- The mean square of the logits. -/
def routerZ (x : Vec F S2048x1024 .f32) (wr : Vec F S1024x8 .f32) : FVec F S1x1 .f32 := k0_pay3 x wr

/-- The router's stores tile its block. -/
theorem wePieces_cover (x : Vec F S2048x1024 .f32) (wr : Vec F S1024x8 .f32) :
    ∀ y, ∃ p ∈ wePieces x wr, y ∈ p.1.set :=
  View.cover_of_tiled _ S256x8.size (by rfl)

/-- One store through a whole-block rectangle at zero offsets leaves its payload. -/
theorem read_one_store {sig' : RefSig} {κ : Kind} {sp : Space} {s : Shape} {e : EltTy} (v : View sig' κ sp s e) (f : v.ty.Contents (Elt F))
    {off : Fin s.rank → ℕ} (hz : off = fun _ => 0) (inb : ∀ a, off a + s.size a ≤ s.size a) (w : s.Idx → Elt F e) :
    v.read (Elt F) (v.writes (Elt F) f [⟨Rect.unit off s.size inb, w⟩]) = w :=
  (View.read_writes_eq_canon v f [⟨Rect.unit off s.size inb, w⟩]
    fun y => ⟨_, List.mem_singleton_self _, View.mem_set_unit_zero hz inb y⟩).trans (View.canon_unit_zero hz inb w)

/-! ## The feed-forward body -/

/-- The gated hidden rows of one chunk: `silu (x·wg) * (x·wu)` on the lanes in `mask`, zero on the others. -/
def hidChunk (mask : IVec S256x1408 1) (wg wu : FVec F S1024x1408 .bf16) (x : Vec F S256x1024 .bf16) : FVec F S256x1408 .f32 :=
  have xb := shapeCast S256x1024 x shapeCasts_S256x1024_S256x1024
  have a := matmul dot_S256x1024_S1024x1408_S256x1408_1_0_0_1_n_n none xb wg (constant S256x1408 .f32 0x00000000#32)
  have b := matmul dot_S256x1024_S1024x1408_S256x1408_1_0_0_1_n_n none xb wu (constant S256x1408 .f32 0x00000000#32)
  select mask (mulf (mulf a (logistic a)) b) (broadcast S256x1408 (Scalar.ofBits .f32 0x00000000#32))

/-- One chunk of rows of the feed-forward sum: the accumulator plus the hidden rows' product with `wd` times the weight
    column. -/
def ffnChunk (off : Fin 2 → ℕ) (h : S2048x1.Slices off S256x1) (wcol : FVec F S2048x1 .f32) (mask : IVec S256x1408 1)
    (wg wu : FVec F S1024x1408 .bf16) (wd : FVec F S1408x1024 .bf16) (x : Vec F S256x1024 .bf16) (acc : Vec F S256x1024 .f32) :
    FVec F S256x1024 .f32 :=
  addf (shapeCast S256x1024 acc shapeCasts_S256x1024_S256x1024)
    (mulf (matmul dot_S256x1408_S1408x1024_S256x1024_1_0_0_1_n_n none (truncf .bf16 (hidChunk mask wg wu x) bitsLt_bf16_f32) wd
        (constant S256x1024 .f32 0x00000000#32))
      (broadcastTo S256x1024 (extractStridedSlice S256x1 off wcol h) broadcasts_S256x1_S256x1024))

/-- Whether a grid point is the first: both coordinates zero. -/
abbrev isFirst (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- What the accumulator starts a grid point from: zeros at the first point, what it held elsewhere. -/
def ffnStart (i : grid1.Coords) (Y : S2048x1024.Idx → Elt F .f32) : S2048x1024.Idx → Elt F .f32 :=
  if isFirst i then k1_pay3 else Y

section
variable (i : grid1.Coords) (we : S2048x8.Idx → Elt F .f32) (x : S2048x1024.Idx → Elt F .bf16)
  (wg wu : S1x1024x1408.Idx → Elt F .f32) (wd : S1x1408x1024.Idx → Elt F .f32) (Z : S2048x1024.Idx → Elt F .f32)

/-- Row chunk `k` of the accumulator after a grid point. -/
def ffnAt (k : ℕ) (hk : k < 8) (x : Vec F S256x1024 .bf16) (acc : Vec F S256x1024 .f32) : FVec F S256x1024 .f32 :=
  ffnChunk (offR k) (slicesC k hk) (k1_pay4 i (View.ld we (Rect.unit (s := S2048x8) ![0, 0] S2048x8.size inb_S2048x8_S2048x8_0_0)))
    (k1_pay5 i)
    (k1_pay6 (View.ld wg (Rect.unit (s := S1x1024x1408) ![0, 0, 0] S1x1024x1408.size inb_S1x1024x1408_S1x1024x1408_0_0_0)))
    (k1_pay7 (View.ld wu (Rect.unit (s := S1x1024x1408) ![0, 0, 0] S1x1024x1408.size inb_S1x1024x1408_S1x1024x1408_0_0_0)))
    (k1_pay8 i (View.ld wd (Rect.unit (s := S1x1408x1024) ![0, 0, 0] S1x1408x1024.size inb_S1x1408x1024_S1x1408x1024_0_0_0)))
    x acc

/-- The stores of a grid point into the accumulator, last first. -/
def ffnPieces : List (View.Piece (Elt F) S2048x1024 .f32) :=
  [⟨Rect.unit ![1792, 0] S256x1024.size inb_S2048x1024_S256x1024_1792_0,
      ffnAt i we wg wu wd 7 (by decide) (View.ld x (Rect.unit (s := S2048x1024) ![1792, 0] S256x1024.size inb_S2048x1024_S256x1024_1792_0))
        (View.ld Z (Rect.unit (s := S2048x1024) ![1792, 0] S256x1024.size inb_S2048x1024_S256x1024_1792_0))⟩,
   ⟨Rect.unit ![1536, 0] S256x1024.size inb_S2048x1024_S256x1024_1536_0,
      ffnAt i we wg wu wd 6 (by decide) (View.ld x (Rect.unit (s := S2048x1024) ![1536, 0] S256x1024.size inb_S2048x1024_S256x1024_1536_0))
        (View.ld Z (Rect.unit (s := S2048x1024) ![1536, 0] S256x1024.size inb_S2048x1024_S256x1024_1536_0))⟩,
   ⟨Rect.unit ![1280, 0] S256x1024.size inb_S2048x1024_S256x1024_1280_0,
      ffnAt i we wg wu wd 5 (by decide) (View.ld x (Rect.unit (s := S2048x1024) ![1280, 0] S256x1024.size inb_S2048x1024_S256x1024_1280_0))
        (View.ld Z (Rect.unit (s := S2048x1024) ![1280, 0] S256x1024.size inb_S2048x1024_S256x1024_1280_0))⟩,
   ⟨Rect.unit ![1024, 0] S256x1024.size inb_S2048x1024_S256x1024_1024_0,
      ffnAt i we wg wu wd 4 (by decide) (View.ld x (Rect.unit (s := S2048x1024) ![1024, 0] S256x1024.size inb_S2048x1024_S256x1024_1024_0))
        (View.ld Z (Rect.unit (s := S2048x1024) ![1024, 0] S256x1024.size inb_S2048x1024_S256x1024_1024_0))⟩,
   ⟨Rect.unit ![768, 0] S256x1024.size inb_S2048x1024_S256x1024_768_0,
      ffnAt i we wg wu wd 3 (by decide) (View.ld x (Rect.unit (s := S2048x1024) ![768, 0] S256x1024.size inb_S2048x1024_S256x1024_768_0))
        (View.ld Z (Rect.unit (s := S2048x1024) ![768, 0] S256x1024.size inb_S2048x1024_S256x1024_768_0))⟩,
   ⟨Rect.unit ![512, 0] S256x1024.size inb_S2048x1024_S256x1024_512_0,
      ffnAt i we wg wu wd 2 (by decide) (View.ld x (Rect.unit (s := S2048x1024) ![512, 0] S256x1024.size inb_S2048x1024_S256x1024_512_0))
        (View.ld Z (Rect.unit (s := S2048x1024) ![512, 0] S256x1024.size inb_S2048x1024_S256x1024_512_0))⟩,
   ⟨Rect.unit ![256, 0] S256x1024.size inb_S2048x1024_S256x1024_256_0,
      ffnAt i we wg wu wd 1 (by decide) (View.ld x (Rect.unit (s := S2048x1024) ![256, 0] S256x1024.size inb_S2048x1024_S256x1024_256_0))
        (View.ld Z (Rect.unit (s := S2048x1024) ![256, 0] S256x1024.size inb_S2048x1024_S256x1024_256_0))⟩,
   ⟨Rect.unit ![0, 0] S256x1024.size inb_S2048x1024_S256x1024_0_0,
      ffnAt i we wg wu wd 0 (by decide) (View.ld x (Rect.unit (s := S2048x1024) ![0, 0] S256x1024.size inb_S2048x1024_S256x1024_0_0))
        (View.ld Z (Rect.unit (s := S2048x1024) ![0, 0] S256x1024.size inb_S2048x1024_S256x1024_0_0))⟩]

/-- The accumulator after a grid point that starts from `Z`. -/
def ffnOut : S2048x1024.Idx → Elt F .f32 := View.canon (ffnPieces i we x wg wu wd Z)

/-- A grid point's stores tile the accumulator. -/
theorem ffnPieces_cover : ∀ y, ∃ p ∈ ffnPieces i we x wg wu wd Z, y ∈ p.1.set :=
  View.cover_of_tiled _ S256x1024.size (by rfl)

end

end Cert.KernelIdeal.Body
end
-- ==== Proof.KernelIdeal.Common.lean ====
/-
  Words shared by the modules that run the bodies: the resource algebra and a buffer held whole.
-/
module

public import proofs.«01_k».proof.Proof.KernelIdeal.Spec
public import Idealize.ShloMosaic.Lib.Tactic
public import Idealize.ShloMosaic.Lib.Pipeline.Kit
public import Idealize.ShloMosaic.Lib.Pipeline.FrameBody

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipelines' staging cells. -/
abbrev UU (nD : Nat) (τ : Topo) : Type := UR sig nD τ

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.KernelIdeal.Body
end
-- ==== Proof.KernelIdeal.RouterBody.lean ====
/-
  The router's body run once at symbolic operands: what its three result blocks hold at the end.
-/
module

public import proofs.«01_k».proof.Proof.KernelIdeal.Common
public import Idealize.ShloMosaic.Lib.Tactic
public import Idealize.ShloMosaic.Lib.Pipeline.Kit
public import Idealize.ShloMosaic.Lib.Pipeline.FrameBody

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The router's body, from its five blocks held whole: it ends with its operands as they were and its three results
    at `routerWe`, `routerAux` and `routerZ` of them. -/
theorem router_run (c : Dev nD)
    (M0 : Memref sig .tc .vmem S2048x1024 .f32) (h0 : M0.IsWhole)
    (M1 : Memref sig .tc .vmem S1024x8 .f32) (h1 : M1.IsWhole)
    (M2 : Memref sig .tc .vmem S2048x8 .f32) (h2 : M2.IsWhole)
    (M3 : Memref sig .tc .vmem S1x1 .f32) (h3 : M3.IsWhole)
    (M4 : Memref sig .tc .vmem S1x1 .f32) (h4 : M4.IsWhole)
    (f0 : Bf (F := F) c M0) (f1 : Bf (F := F) c M1) (f2 : Bf (F := F) c M2) (f3 : Bf (F := F) c M3) (f4 : Bf (F := F) c M4)
    (Q : PUnit → sProp 𝕄) :
    iprop(pt c M0 f0 ∗ pt c M1 f1 ∗ pt c M2 f2 ∗ pt c M3 f3 ∗ pt c M4 f4
      ∗ (iprop(pt c M0 f0 ∗ pt c M1 f1
          ∗ (∃ f, ⌜M2.view.read (Elt F) f = routerWe (M0.view.read (Elt F) f0) (M1.view.read (Elt F) f1)⌝ ∗ pt c M2 f)
          ∗ (∃ f, ⌜M3.view.read (Elt F) f = routerAux (M0.view.read (Elt F) f0) (M1.view.read (Elt F) f1)⌝ ∗ pt c M3 f)
          ∗ (∃ f, ⌜M4.view.read (Elt F) f = routerZ (M0.view.read (Elt F) f0) (M1.view.read (Elt F) f1)⌝ ∗ pt c M4 f)) -∗ Q ⟨⟩))
    ⊢ wp frame (wpE (defs₀ (F := F)) Variants.none c none) Set.univ
        (cc0__router_body M0 h0 M1 h1 M2 h2 M3 h3 M4 h4) Q := by
  have hz : (![0, 0] : Fin 2 → Nat) = fun _ => 0 := funext fun a => by fin_cases a <;> rfl
  have e0 : M0.view.readAt (Elt F) (Rect.unit (s := S2048x1024) ![0, 0] S2048x1024.size inb_S2048x1024_S2048x1024_0_0).toLoadRect f0
      = M0.view.read (Elt F) f0 := View.ld_unit_zero hz _ _
  have e1 : M1.view.readAt (Elt F) (Rect.unit (s := S1024x8) ![0, 0] S1024x8.size inb_S1024x8_S1024x8_0_0).toLoadRect f1
      = M1.view.read (Elt F) f1 := View.ld_unit_zero hz _ _
  rw [cc0__router_body_eq_skeleton]
  iintro ⟨H0, H1, H2, H3, H4, Hk⟩
  unfold cc0__router_body_skel
  sl_exec
  sl_step
  sl_unfold_words
  simp only [e0, e1]
  iapply Hk
  isplitl [H0]; · iexact H0
  isplitl [H1]; · iexact H1
  isplitl [H2]
  · iexists _; isplitr
    swap; · iexact H2
    ipureintro
    exact View.read_writes_eq_canon M2.view f2 (wePieces (M0.view.read (Elt F) f0) (M1.view.read (Elt F) f1)) (wePieces_cover _ _)
  isplitl [H3]
  · iexists _; isplitr
    swap; · iexact H3
    ipureintro
    exact read_one_store _ _ hz _ _
  · iexists _; isplitr
    swap; · iexact H4
    ipureintro
    exact read_one_store _ _ hz _ _

end Cert.KernelIdeal.Body
end
-- ==== Proof.KernelIdeal.FfnBody.lean ====
/-
  The feed-forward body run once at symbolic operands: what its accumulator block holds at the end.
-/
module

public import proofs.«01_k».proof.Proof.KernelIdeal.Common
public import Idealize.ShloMosaic.Lib.Tactic
public import Idealize.ShloMosaic.Lib.Pipeline.Kit
public import Idealize.ShloMosaic.Lib.Pipeline.FrameBody

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The feed-forward body at grid point `i`, from its six blocks held whole: it ends with its operands as they were and
    the accumulator at `ffnOut` of them, started from `ffnStart`. -/
theorem ffn_run (c : Dev nD) (i : grid1.Coords)
    (M2 : Memref sig .tc .vmem S2048x8 .f32) (h2 : M2.IsWhole)
    (M3 : Memref sig .tc .vmem S2048x1024 .bf16) (h3 : M3.IsWhole)
    (M4 : Memref sig .tc .vmem S1x1024x1408 .f32) (h4 : M4.IsWhole)
    (M5 : Memref sig .tc .vmem S1x1024x1408 .f32) (h5 : M5.IsWhole)
    (M6 : Memref sig .tc .vmem S1x1408x1024 .f32) (h6 : M6.IsWhole)
    (M7 : Memref sig .tc .vmem S2048x1024 .f32) (h7 : M7.IsWhole)
    (f2 : Bf (F := F) c M2) (f3 : Bf (F := F) c M3) (f4 : Bf (F := F) c M4) (f5 : Bf (F := F) c M5) (f6 : Bf (F := F) c M6) (f7 : Bf (F := F) c M7)
    (Q : PUnit → sProp 𝕄) :
    iprop(pt c M2 f2 ∗ pt c M3 f3 ∗ pt c M4 f4 ∗ pt c M5 f5 ∗ pt c M6 f6 ∗ pt c M7 f7
      ∗ (iprop(pt c M2 f2 ∗ pt c M3 f3 ∗ pt c M4 f4 ∗ pt c M5 f5 ∗ pt c M6 f6
          ∗ (∃ f, ⌜M7.view.read (Elt F) f = ffnOut i (M2.view.read (Elt F) f2) (M3.view.read (Elt F) f3) (M4.view.read (Elt F) f4)
              (M5.view.read (Elt F) f5) (M6.view.read (Elt F) f6) (ffnStart i (M7.view.read (Elt F) f7))⌝ ∗ pt c M7 f)) -∗ Q ⟨⟩))
    ⊢ wp frame (wpE (defs₀ (F := F)) Variants.none c none) Set.univ
        (cc1__ffn_body i M2 h2 M3 h3 M4 h4 M5 h5 M6 h6 M7 h7) Q := by
  have hz : (![0, 0] : Fin 2 → Nat) = fun _ => 0 := funext fun a => by fin_cases a <;> rfl
  rw [cc1__ffn_body_eq_skeleton]
  iintro ⟨H2, H3, H4, H5, H6, H7, Hk⟩
  unfold cc1__ffn_body_skel
  sl_exec
  sl_step
  sl_unfold_words
  -- what the accumulator starts from, read
  have hstart : M7.view.read (Elt F) (if hc : isFirst i then
      M7.view.writes (Elt F) f7 [⟨Rect.unit ![0, 0] S2048x1024.size inb_S2048x1024_S2048x1024_0_0, k1_pay3⟩] else f7)
      = ffnStart i (M7.view.read (Elt F) f7) := by
    unfold ffnStart
    split
    · exact read_one_store _ _ hz _ _
    · rfl
  iapply Hk
  isplitl [H2]; · iexact H2
  isplitl [H3]; · iexact H3
  isplitl [H4]; · iexact H4
  isplitl [H5]; · iexact H5
  isplitl [H6]; · iexact H6
  iexists _; isplitr
  swap; · iexact H7
  ipureintro
  rw [← hstart]
  exact View.read_writes_eq_canon M7.view _ (ffnPieces i (M2.view.read (Elt F) f2) (M3.view.read (Elt F) f3) (M4.view.read (Elt F) f4)
    (M5.view.read (Elt F) f5) (M6.view.read (Elt F) f6) _) (ffnPieces_cover _ _ _ _ _ _ _)

end Cert.KernelIdeal.Body
end
-- ==== Proof.KernelIdeal.Data.lean ====
/-
  The proof data of the two calls: the router's results named exactly (its blocks are whole), the feed-forward call's
  accumulator by a relation between what a grid point finds and what it leaves (the weight blocks at the array's edge
  hold arbitrary values beyond it); and the two body obligations.
-/
module

public import proofs.«01_k».proof.Proof.KernelIdeal.RouterBody
public import proofs.«01_k».proof.Proof.KernelIdeal.FfnBody
public import proofs.«01_k».proof.Proof.Gen.KernelIdeal.Launch
public import proofs.«01_k».proof.Proof.Gen.KernelIdeal.Regions
public import Idealize.ShloMosaic.Lib.Pipeline.RegionsOwned
public import Idealize.ShloMosaic.Lib.Pipeline.RegionArrays

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UU nD τ) ℕ

variable (m : (ℓ : Loc nD τ sig) → Buf (Elt F) ℓ)

/-- The tokens as the router's call reads them: the input reshaped to rows. -/
abbrev xIn (c : Dev nD) : S2048x1024.Idx → Elt F .f32 := V1 m c main_v0
/-- The router's matrix. -/
abbrev wrIn (c : Dev nD) : S1024x8.Idx → Elt F .f32 := V1 m c main_arg1

/-! ## The router's call -/

/-- What the router's fetch of window `w` stages: the window's block of its array. -/
abbrev stg0 (c : Dev nD) (w : Fin cfg0.W) : ((cfg0.win w).xblock (cfg0.grid.coords t0_0)).Idx → Elt F (cfg0.win w).elt :=
  ((cfg0.win w).blk t0_0).view.read (Elt F) (V1 m c (Pipeline.arrRef spec0 w))

/-- The router's proof data on core `c`. -/
def dat0 (c : Dev nD) : Dat τ (Elt F) Unit ℕ (UU nD τ) ℕ cfg0 c where
  A w := V1 m c (Pipeline.arrRef spec0 w)
  after w _ := match w with
    | ⟨0, _⟩ => stg0 m c 0
    | ⟨1, _⟩ => stg0 m c 1
    | ⟨2, _⟩ => routerWe (stg0 m c 0) (stg0 m c 1)
    | ⟨3, _⟩ => routerAux (stg0 m c 0) (stg0 m c 1)
    | ⟨4, _⟩ => routerZ (stg0 m c 0) (stg0 m c 1)
  Φ _ := Pipeline.scopedRest (Ix := Unit) (Name := ℕ) (U := UU nD τ) (Lvl := ℕ) (Val := Elt F) spec0 c
  q _ := fullShare
  owed _ := 0

theorem dat0_A (c : Dev nD) (w : Fin cfg0.W) : (dat0 m c).A w = V1 m c (Pipeline.arrRef spec0 w) := by dsimp only [dat0]

/-- The operands' buffers hold the arrays' blocks when the body runs. -/
theorem before0_0 (c : Dev nD) (d : (cfg0.win 0).block.Idx → Elt F (cfg0.win 0).elt) : (dat0 m c).before 0 t0_0 d = stg0 m c 0 := by
  unfold Dat.before; rw [if_pos (fetch0_0 t0_0)]; rfl
theorem before0_1 (c : Dev nD) (d : (cfg0.win 1).block.Idx → Elt F (cfg0.win 1).elt) : (dat0 m c).before 1 t0_0 d = stg0 m c 1 := by
  unfold Dat.before; rw [if_pos (fetch0_1 t0_0)]; rfl

/-- The router's body obligation. -/
theorem body0 (c : Dev nD) : Pipeline.BodyObligation (dat0 m c) (defs₀ (F := F)) Variants.none () Set.univ := fun t => by
  obtain rfl := fin_N0 t
  rw [bigSep_W0, bigSep_W0]
  simp only [owns_whole_eq]
  unfold Dat.owesAt Pipeline.owesWithin
  rw [show (dat0 m c).owed t0_0.castSucc = 0 from rfl, show (dat0 m c).owed t0_0.succ = 0 from rfl,
    show (dat0 m c).Φ t0_0.castSucc = (dat0 m c).Φ t0_0.succ from rfl]
  iintro ⟨HΦ, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before0_0] at hf0
  rw [before0_1] at hf1
  subst hf0
  subst hf1
  iapply (router_run c (stage0_0 0) (hstage0_0 0) (stage0_1 0) (hstage0_1 0) (stage0_2 0) (hstage0_2 0) (stage0_3 0) (hstage0_3 0)
    (stage0_4 0) (hstage0_4 0) (stg0 m c 0) (stg0 m c 1) f2 f3 f4)
  isplitl [H0]; · iexact H0
  isplitl [H1]; · iexact H1
  isplitl [H2]; · iexact H2
  isplitl [H3]; · iexact H3
  isplitl [H4]; · iexact H4
  iintro ⟨H0, H1, ⟨%g2, %h2, H2⟩, ⟨%g3, %h3, H3⟩, ⟨%g4, %h4, H4⟩⟩
  isplitl [HΦ]; · iexact HΦ
  isplitl [HO]
  · iexists W; isplitr; · ipureintro; exact fun _ _ => Or.inl trivial
    iexact HO
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; exact h2
  isplitl [H3]; · iexists _; isplitr; swap; (· iexact H3); ipureintro; exact h3
  iexists _; isplitr; swap; (· iexact H4); ipureintro; exact h4

/-! ## What the router's call leaves -/

/-- What the router's call leaves in window `w`'s array. -/
abbrev fin0 (c : Dev nD) (w : Fin cfg0.W) : Buf (Elt F) ((cfg0.win w).arr.view.loc (c : Thread nD τ)) := (dat0 m c).arrAt w cfg0.N

/-- The buffers after the router's call. -/
abbrev W2 (c : Dev nD) : Valuation τ sig (Elt F) :=
  Function.update (Function.update (Function.update (V1 m c) main_v1_0 (fin0 m c 2)) main_v1_1 (fin0 m c 3)) main_v1_2 (fin0 m c 4)

/-- What the two calls leave, the feed-forward call's result at `f`. -/
def outs (f : (c : Dev nD) → Buf (Elt F) ((c : Thread nD τ).loc main_v3)) : Outs (F := F) := fun J r c =>
  if J = 2 then W2 m c r else Function.update (V0 m c) main_v3 (f c) r

theorem outs_v1_0 (f : (c : Dev nD) → Buf (Elt F) ((c : Thread nD τ).loc main_v3)) (c : Dev nD) : outs m f 2 main_v1_0 c = fin0 m c 2 := by
  rw [outs, if_pos rfl, W2, Function.update_of_ne (StableHlo.devRef_ne_of_ne (by decide)), Function.update_of_ne (StableHlo.devRef_ne_of_ne (by decide)),
    Function.update_self]
theorem outs_v1_1 (f : (c : Dev nD) → Buf (Elt F) ((c : Thread nD τ).loc main_v3)) (c : Dev nD) : outs m f 2 main_v1_1 c = fin0 m c 3 := by
  rw [outs, if_pos rfl, W2, Function.update_of_ne (StableHlo.devRef_ne_of_ne (by decide)), Function.update_self]
theorem outs_v1_2 (f : (c : Dev nD) → Buf (Elt F) ((c : Thread nD τ).loc main_v3)) (c : Dev nD) : outs m f 2 main_v1_2 c = fin0 m c 4 := by
  rw [outs, if_pos rfl, W2, Function.update_self]
theorem outs_v3 (f : (c : Dev nD) → Buf (Elt F) ((c : Thread nD τ).loc main_v3)) (c : Dev nD) : outs m f 4 main_v3 c = f c := by
  rw [outs, if_neg (by decide), Function.update_self]

theorem V2_outs (f : (c : Dev nD) → Buf (Elt F) ((c : Thread nD τ).loc main_v3)) (c : Dev nD) : V2 m (outs m f) c = W2 m c := by
  rw [V2, outs_v1_0, outs_v1_1, outs_v1_2]

/-- The buffers when the feed-forward call is entered. -/
def W3 (c : Dev nD) : Valuation τ sig (Elt F) := StableHlo.after hostOps1 (W2 m c)
theorem V3_outs (f : (c : Dev nD) → Buf (Elt F) ((c : Thread nD τ).loc main_v3)) (c : Dev nD) : V3 m (outs m f) c = W3 m c := by
  rw [V3, V2_outs]; rfl
theorem V4_outs (f : (c : Dev nD) → Buf (Elt F) ((c : Thread nD τ).loc main_v3)) (c : Dev nD) :
    V4 m (outs m f) c = Function.update (W3 m c) main_v3 (f c) := by
  rw [V4, V3_outs, outs_v3]

/-! ## The feed-forward call -/

/-- The feed-forward call's block of window `w` at point `t`, on the part of the window inside the array; beyond it, `d`. -/
def blk1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (W3 m c (Pipeline.arrRef spec1 w)))

/-- The accumulator after point `t`, from what it held before: one run of the body on the operands' blocks, whatever the
    weight blocks hold beyond the array's edge. -/
def ffnStep (c : Dev nD) (t : Fin cfg1.N) (Y X : S2048x1024.Idx → Elt F .f32) : Prop :=
  ∃ d0 d1 d2 d3 d4, X = ffnOut (grid1.coords t) (blk1 m c 0 t d0) (blk1 m c 1 t d1) (blk1 m c 2 t d2) (blk1 m c 3 t d3) (blk1 m c 4 t d4)
    (ffnStart (grid1.coords t) Y)

/-- The feed-forward call's proof data on core `c`: operands left as found, the accumulator by `ffnStep`. -/
def rdat1 (c : Dev nD) : RDat τ (Elt F) Unit ℕ (UU nD τ) ℕ cfg1 c where
  A w := W3 m c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => ffnStep m c t Y X
  Φ _ := Pipeline.scopedRest (Ix := Unit) (Name := ℕ) (U := UU nD τ) (Lvl := ℕ) (Val := Elt F) spec1 c
  q _ := fullShare
  owed _ := 0

theorem rdat1_A (c : Dev nD) (w : Fin cfg1.W) : (rdat1 m c).A w = W3 m c (Pipeline.arrRef spec1 w) := by dsimp only [rdat1]

theorem fetched1 (c : Dev nD) (w : Fin cfg1.W) (t : Fin cfg1.N) (d : (cfg1.win w).block.Idx → Elt F (cfg1.win w).elt) :
    (rdat1 m c).fetched w t d = blk1 m c w t d := by
  unfold RDat.fetched RDat.blockOf blk1; rw [rdat1_A]

omit [FloatOps F] in
/-- A staging buffer owned is its whole buffer, held at contents that read as stated. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

/-- Each operand's window holds its block of the array whenever the body runs, fetched there or not. -/
theorem finds1 (c : Dev nD) (w : Fin cfg1.W) (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hkeep : ∀ t Y X, (rdat1 m c).after w t Y X → X = Y) (t : Fin cfg1.N) (Y : (cfg1.win w).block.Idx → Elt F (cfg1.win w).elt)
    (h : (rdat1 m c).Finds w t Y) : ∃ d, Y = blk1 m c w t d := by
  obtain ⟨d, rfl⟩ := RDat.finds_in_eq_fetched (rdat1 m c) w hw hclip hkeep t Y h
  exact ⟨d, fetched1 m c w t d⟩

theorem finds1_of_fetch (c : Dev nD) (w : Fin cfg1.W) (t : Fin cfg1.N) (hf : (cfg1.win w).fetch t = true)
    (Y : (cfg1.win w).block.Idx → Elt F (cfg1.win w).elt)
    (h : (rdat1 m c).Finds w t Y) : ∃ d, Y = blk1 m c w t d := by
  obtain ⟨d, rfl⟩ := ((rdat1 m c).finds_of_fetch hf Y).mp h
  exact ⟨d, fetched1 m c w t d⟩

/-- Back: a whole staging buffer held is owned at what it reads. -/
theorem owns_back (c : Dev nD) {sp : Space} {S : Shape} {e : EltTy} (M : Memref sig .tc sp S e) (h : M.IsWhole) (f : Bf (F := F) c M)
    (P : (S.Idx → Elt F e) → Prop) (hP : P (M.view.read (Elt F) f)) :
    pt c M f ⊢ (iprop(∃ X, ⌜P X⌝ ∗ owns (c : Thread nD τ) M fullShare X) : sProp 𝕄) := by
  iintro H
  iexists (M.view.read (Elt F) f)
  isplitr; · ipureintro; exact hP
  rw [owns_of_whole c M h]
  iexists f
  isplitr; · ipureintro; rfl
  iexact H

/-- The feed-forward body's obligation. -/
theorem body1 (c : Dev nD) : (rdat1 m c).BodyObligation (defs₀ (F := F)) Variants.none () Set.univ := fun t Y hY => by
  obtain ⟨d0, h0⟩ := finds1 m c 0 rfl (fun _ _ _ => rfl) (fun _ _ _ h => h) t (Y 0) (hY 0)
  obtain ⟨d1, h1⟩ := finds1 m c 1 rfl (fun _ _ _ => rfl) (fun _ _ _ h => h) t (Y 1) (hY 1)
  obtain ⟨d2, h2⟩ := finds1_of_fetch m c 2 t (fetch1_2 t) (Y 2) (hY 2)
  obtain ⟨d3, h3⟩ := finds1_of_fetch m c 3 t (fetch1_3 t) (Y 3) (hY 3)
  obtain ⟨d4, h4⟩ := finds1_of_fetch m c 4 t (fetch1_4 t) (Y 4) (hY 4)
  rw [bigSep_W1, bigSep_W1]
  rw [show (rdat1 m c).Φ t.castSucc = (rdat1 m c).Φ t.succ from rfl]
  unfold RDat.owesAt Pipeline.owesWithin
  rw [show (rdat1 m c).owed t.castSucc = 0 from rfl, show (rdat1 m c).owed t.succ = 0 from rfl]
  rw [owns_of_whole c (st1_0 t) (stage_whole1 0 _), owns_of_whole c (st1_1 t) (stage_whole1 1 _), owns_of_whole c (st1_2 t) (stage_whole1 2 _),
    owns_of_whole c (st1_3 t) (stage_whole1 3 _), owns_of_whole c (st1_4 t) (stage_whole1 4 _), owns_of_whole c (st1_5 t) (stage_whole1 5 _)]
  show _ ⊢ wp frame _ _ (bodyAt1 t) _
  iintro ⟨HΦ, ⟨%W, %hW, HO⟩, ⟨%f0, %hf0, H0⟩, ⟨%f1, %hf1, H1⟩, ⟨%f2, %hf2, H2⟩, ⟨%f3, %hf3, H3⟩, ⟨%f4, %hf4, H4⟩, ⟨%f5, %hf5, H5⟩⟩
  iapply (ffn_run c (grid1.coords t) (st1_0 t) _ (st1_1 t) _ (st1_2 t) _ (st1_3 t) _ (st1_4 t) _ (st1_5 t) _ f0 f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%g5, %hg, H5⟩⟩
  isplitl [HΦ]; · iexact HΦ
  isplitl [HO]
  · iexists W; isplitr; · ipureintro; exact fun _ _ => Or.inl trivial
    iexact HO
  isplitl [H0]; · iapply (owns_back c (st1_0 t) (stage_whole1 0 _) f0 (fun X => X = Y 0) hf0) $$ H0
  isplitl [H1]; · iapply (owns_back c (st1_1 t) (stage_whole1 1 _) f1 (fun X => X = Y 1) hf1) $$ H1
  isplitl [H2]; · iapply (owns_back c (st1_2 t) (stage_whole1 2 _) f2 (fun X => X = Y 2) hf2) $$ H2
  isplitl [H3]; · iapply (owns_back c (st1_3 t) (stage_whole1 3 _) f3 (fun X => X = Y 3) hf3) $$ H3
  isplitl [H4]; · iapply (owns_back c (st1_4 t) (stage_whole1 4 _) f4 (fun X => X = Y 4) hf4) $$ H4
  iapply (owns_back c (st1_5 t) (stage_whole1 5 _) g5 (fun X => ffnStep m c t (Y 5) X)
    ⟨d0, d1, d2, d3, d4, by rw [← h0, ← h1, ← h2, ← h3, ← h4, ← hf0, ← hf1, ← hf2, ← hf3, ← hf4, ← hf5]; exact hg⟩) $$ H5

end Cert.KernelIdeal.Body
end
-- ==== Proof.KernelIdeal.Run.lean ====
/-
  The whole program run: the two calls' records, the host operations between them, and what every execution ends with —
  the arguments as launched, the results read off the last host operations, every semaphore at zero.
-/
module

public import proofs.«01_k».proof.Proof.KernelIdeal.Data

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ (UU nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-- What rides beside the buffers: the core's `owes`. -/
abbrev R (c : Dev nD) : sProp 𝕄 := iprop(∃ W, owes (c : Thread nD τ) (0 : CellTallies nD τ sig Unit) W)

/-- Both calls' proof data. -/
def rdats : (p : Fin 2) → (c : Dev nD) → RDat τ (Elt F) Unit ℕ (UU nD τ) ℕ (Pipeline.pin (pcfgs (F := F)) adm p) c
  | ⟨0, _⟩ => fun c => (dat0 m c).toR
  | ⟨1, _⟩ => fun c => rdat1 m c

/-- The contents the feed-forward call may leave in its result. -/
abbrev Γ (c : Dev nD) : Type := { f : Buf (Elt F) ((c : Thread nD τ).loc main_v3) // (rdat1 m c).ArrAt 5 cfg1.N f }

/-- The buffers after the feed-forward call and at the end, its result at `f`. -/
abbrev W4 (c : Dev nD) (f : Buf (Elt F) ((c : Thread nD τ).loc main_v3)) : Valuation τ sig (Elt F) := Function.update (W3 m c) main_v3 f
abbrev W5 (c : Dev nD) (f : Buf (Elt F) ((c : Thread nD τ).loc main_v3)) : Valuation τ sig (Elt F) := StableHlo.after hostOps2 (W4 m c f)

theorem W5_eq (c : Dev nD) (f : Buf (Elt F) ((c : Thread nD τ).loc main_v3)) :
    W5 m c f = V5 m (outs m (Function.update (fun c => V0 m c main_v3) c f)) c := by
  rw [V5, V4_outs, Function.update_self]

/-- The host stretch before the feed-forward call, and the last one. -/
abbrev hseg2 : HostSeg (Ix := Unit) (Name := ℕ) (U := UU nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
abbrev hseg4 : HostSeg (Ix := Unit) (Name := ℕ) (U := UU nD τ) (Lvl := ℕ) (pcfgs (F := F)) defs₀ Variants.none L lv :=
  HostSeg.ofOpsEx (Γ := Γ m) _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun c γ => W4 m c γ.1) R

/-- The buffers of `W2` other than the router's results are those before its call. -/
theorem W2_of (c : Dev nD) (r : Ref sig .tc) (h : r ∉ ([main_v1_0, main_v1_1, main_v1_2] : List (Ref sig .tc))) : W2 m c r = V1 m c r := by
  rw [← V2_outs m (fun c => V0 m c main_v3)]; exact V2_of m _ c r h
theorem W4_of (c : Dev nD) (f : Buf (Elt F) ((c : Thread nD τ).loc main_v3)) (r : Ref sig .tc) (h : r ≠ main_v3) : W4 m c f r = W3 m c r := by
  rw [W4, Function.update_of_ne (StableHlo.devRef_ne_of_ne h)]

theorem W2_win (c : Dev nD) (w : Fin cfg0.W) : fin0 m c w = W2 m c (Pipeline.arrRef spec0 w) := by
  match w with
  | ⟨0, _⟩ => exact ((dat0 m c).arrAt_in 0 rfl _).trans (W2_of m c main_v0 (by decide)).symm
  | ⟨1, _⟩ => exact ((dat0 m c).arrAt_in 1 rfl _).trans (W2_of m c main_arg1 (by decide)).symm
  | ⟨2, _⟩ => exact (outs_v1_0 m (fun c => V0 m c main_v3) c).symm.trans (by rw [outs, if_pos rfl])
  | ⟨3, _⟩ => exact (outs_v1_1 m (fun c => V0 m c main_v3) c).symm.trans (by rw [outs, if_pos rfl])
  | ⟨4, _⟩ => exact (outs_v1_2 m (fun c => V0 m c main_v3) c).symm.trans (by rw [outs, if_pos rfl])

set_option backward.isDefEq.respectTransparency.types false in
/-- THE ROUTER'S CALL: entered from the buffers after the first reshape, left with its three results written. -/
def reg0 : RDat.RegionSeg (pcfgs (F := F)) adm (rdats m) () defs₀ Variants.none L lv 0 where
  win := launch0.win.to₀
  block_pos := launch0.block_pos
  stage_whole := launch0.stage_whole
  K := PEmpty
  osem := fun k => k.elim
  ho := Pipeline.OwnSemFacts.none _
  hbody c := (body0 m c).loose.toR
  hwaits c := RDat.hwaits_of_owed_zero _ _ _ _ L lv 0 (fun _ _ => rfl) c
  pre c := iprop(StableHlo.held (c : Thread nD τ) (Pipeline.ucRefs τ sig) (V1 m c) ∗ R c)
  post c := iprop(StableHlo.held (c : Thread nD τ) (Pipeline.ucRefs τ sig) (W2 m c) ∗ R c)
  X _ := iprop(emp)
  Y _ := iprop(emp)
  Z c := Pipeline.unscopedRest (Ix := Unit) (Name := ℕ) (U := UU nD τ) (Lvl := ℕ) spec0 c (fun b => V1 m c b)
  hentry c := by
    rw [← Pipeline.unscopedBufs_held (Ix := Unit) (Name := ℕ) (U := UU nD τ) (Lvl := ℕ) c (V1 m c)]
    have hsplit := RDat.arrays_of_unscopedBufs (pcfgs (F := F)) adm (rdats m) (p := 0) launch0.win launch0.arr_whole c
      ((dat0 m c).share_full fun _ => rfl) (fun b => V1 m c b) (dat0_A m c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hr
  hin c := by
    show _ ⊢ Pipeline.scopedRest (Ix := Unit) (Name := ℕ) (U := UU nD τ) (Lvl := ℕ) (Val := Elt F) spec0 c
    iintro ⟨-, -, Hr⟩
    iexact Hr
  hout c := by
    show Pipeline.scopedRest (Ix := Unit) (Name := ℕ) (U := UU nD τ) (Lvl := ℕ) (Val := Elt F) spec0 c ⊢ _
    iintro Hr
    isplitr; · iempintro
    isplitr; · rw [Pipeline.ownSems0_none]; iempintro
    iexact Hr
  hexit c := by
    rw [← Pipeline.unscopedBufs_held (Ix := Unit) (Name := ℕ) (U := UU nD τ) (Lvl := ℕ) c (W2 m c)]
    have hz : (rdats m 0 c).arraysAt cfg0.N = (dat0 m c).arrays (fin0 m c) := (dat0 m c).toR_arraysAt_eq cfg0.N
    have hA : (dat0 m c).arrays (fin0 m c) = (rdats m 0 c).arrays (fin0 m c) := rfl
    have hrest : (Pipeline.unscopedRest (Ix := Unit) (Name := ℕ) (U := UU nD τ) (Lvl := ℕ) spec0 c (fun b => V1 m c b) : sProp 𝕄)
        = Pipeline.unscopedRest spec0 c (fun b => W2 m c b) := by
      rw [unscopedRest0_eq, unscopedRest0_eq]
      simp only [W2_of m c main_arg0 (by decide), W2_of m c main_arg2 (by decide), W2_of m c main_arg3 (by decide), W2_of m c main_arg4 (by decide),
        W2_of m c main_v2 (by decide), W2_of m c main_v3 (by decide), W2_of m c main_v4 (by decide), W2_of m c main_v5 (by decide), W2_of m c main_v6 (by decide)]
    have hjoin : iprop((rdats m 0 c).arrays (fin0 m c) ∗ Pipeline.unscopedRest (Ix := Unit) (Name := ℕ) (U := UU nD τ) (Lvl := ℕ) spec0 c (fun b => W2 m c b))
        ⊢ (unscopedBufs c (fun b => W2 m c b) : sProp 𝕄) := by
      rw [Pipeline.unscopedBufs_split (Pipeline.pin (pcfgs (F := F)) adm) 0 launch0.win.arr_unscoped launch0.win.arr_inj c,
        RDat.arrays_eq (pcfgs (F := F)) adm (rdats m) 0 c launch0.arr_whole ((dat0 m c).share_full fun _ => rfl)]
      exact sep_mono (Entails.of_eq (bigSep_congr fun w _ => by rw [W2_win]; rfl)) .rfl
    rw [hrest]
    iintro ⟨Ha, HO, -, Hr⟩
    imodintro
    isplitr [HO]
    · iapply hjoin
      isplitl [Ha]; · iapply (Entails.of_eq (hz.trans hA)) $$ Ha
      iexact Hr
    · unfold RDat.owesAt Pipeline.owesWithin
      icases HO with ⟨%W, -, HO⟩; iexists W; iexact HO

theorem win1_in : ∀ w : Fin cfg1.W, w ≠ 5 → (cfg1.win w).isOut = false := by decide
theorem W4_win (c : Dev nD) (f : Buf (Elt F) ((c : Thread nD τ).loc main_v3)) (w : Fin cfg1.W) (hw : w ≠ 5) :
    (rdat1 m c).A w = W4 m c f (Pipeline.arrRef spec1 w) := by
  rw [rdat1_A]
  refine (W4_of m c f _ ?_).symm
  revert w; decide

set_option backward.isDefEq.respectTransparency.types false in
/-- THE FEED-FORWARD CALL: entered from the buffers after the rounding of the tokens, left with its result at contents
    the proof data allow. -/
def reg1 : RDat.RegionSeg (pcfgs (F := F)) adm (rdats m) () defs₀ Variants.none L lv 1 where
  win := launch1.win.to₀
  block_pos := launch1.block_pos
  stage_whole := launch1.stage_whole
  K := PEmpty
  osem := fun k => k.elim
  ho := Pipeline.OwnSemFacts.none _
  hbody c := body1 m c
  hwaits c := RDat.hwaits_of_owed_zero _ _ _ _ L lv 1 (fun _ _ => rfl) c
  pre c := iprop(StableHlo.held (c : Thread nD τ) (Pipeline.ucRefs τ sig) (W3 m c) ∗ R c)
  post c := iprop((∃ γ : Γ m c, StableHlo.held (c : Thread nD τ) (Pipeline.ucRefs τ sig) (W4 m c γ.1)) ∗ R c)
  X _ := iprop(emp)
  Y _ := iprop(emp)
  Z c := Pipeline.unscopedRest (Ix := Unit) (Name := ℕ) (U := UU nD τ) (Lvl := ℕ) spec1 c (fun b => W3 m c b)
  hentry c := by
    rw [← Pipeline.unscopedBufs_held (Ix := Unit) (Name := ℕ) (U := UU nD τ) (Lvl := ℕ) c (W3 m c)]
    have hsplit := RDat.arrays_of_unscopedBufs (pcfgs (F := F)) adm (rdats m) (p := 1) launch1.win launch1.arr_whole c
      ((rdat1 m c).share_full fun _ => rfl) (fun b => W3 m c b) (rdat1_A m c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hr
  hin c := by
    show _ ⊢ Pipeline.scopedRest (Ix := Unit) (Name := ℕ) (U := UU nD τ) (Lvl := ℕ) (Val := Elt F) spec1 c
    iintro ⟨-, -, Hr⟩
    iexact Hr
  hout c := by
    show Pipeline.scopedRest (Ix := Unit) (Name := ℕ) (U := UU nD τ) (Lvl := ℕ) (Val := Elt F) spec1 c ⊢ _
    iintro Hr
    isplitr; · iempintro
    isplitr; · rw [Pipeline.ownSems0_none]; iempintro
    iexact Hr
  hexit c := by
    have hsplit : (rdats m 1 c).arraysAt cfg1.N ⊢ iprop(∃ A : (w : Fin cfg1.W) → Buf (Elt F) ((cfg1.win w).arr.view.loc (c : Thread nD τ)),
        ⌜∀ w, (rdat1 m c).ArrAt w cfg1.N (A w)⌝ ∗ (rdat1 m c).arrays A) := by
      show (rdat1 m c).arraysAt cfg1.N ⊢ _
      unfold RDat.arraysAt RDat.arrays
      refine (BI.bigSep_exists_pi Finset.univ _).trans ?_
      iintro ⟨%A, H⟩
      ihave H' := (BI.bigSep_pure_sep Finset.univ (fun w => (rdat1 m c).ArrAt w cfg1.N (A w)) _) $$ H
      icases H' with ⟨%hA, H⟩
      iexists A
      isplitr; · ipureintro; exact fun w => hA w (Finset.mem_univ w)
      iexact H
    have hrest : ∀ f, (Pipeline.unscopedRest (Ix := Unit) (Name := ℕ) (U := UU nD τ) (Lvl := ℕ) spec1 c (fun b => W3 m c b) : sProp 𝕄)
        = Pipeline.unscopedRest spec1 c (fun b => W4 m c f b) := fun f => by
      rw [unscopedRest1_eq, unscopedRest1_eq]
      simp only [W4_of m c f main_arg0 (by decide), W4_of m c f main_arg1 (by decide), W4_of m c f main_v0 (by decide), W4_of m c f main_v1_1 (by decide),
        W4_of m c f main_v1_2 (by decide), W4_of m c f main_v4 (by decide), W4_of m c f main_v5 (by decide), W4_of m c f main_v6 (by decide)]
    have hjoin : ∀ A : (w : Fin cfg1.W) → Buf (Elt F) ((cfg1.win w).arr.view.loc (c : Thread nD τ)), (∀ w, (rdat1 m c).ArrAt w cfg1.N (A w)) →
        iprop((rdat1 m c).arrays A ∗ Pipeline.unscopedRest (Ix := Unit) (Name := ℕ) (U := UU nD τ) (Lvl := ℕ) spec1 c (fun b => W3 m c b))
        ⊢ (StableHlo.held (c : Thread nD τ) (Pipeline.ucRefs τ sig) (W4 m c (A 5)) : sProp 𝕄) := fun A hA => by
      rw [← Pipeline.unscopedBufs_held (Ix := Unit) (Name := ℕ) (U := UU nD τ) (Lvl := ℕ) c (W4 m c (A 5)), hrest (A 5)]
      have hw : ∀ w, A w = W4 m c (A 5) (Pipeline.arrRef spec1 w) := fun w => by
        by_cases h5 : w = 5
        · subst h5
          exact (Function.update_self (Proc.devRef (τ := τ) .tc main_v3) (A 5) (W3 m c)).symm
        · refine Eq.trans ?_ (W4_win m c (A 5) w h5)
          exact (congrFun ((rdat1 m c).ArrAt_in w (win1_in w h5) _) _).mp (hA w)
      rw [Pipeline.unscopedBufs_split (Pipeline.pin (pcfgs (F := F)) adm) 1 launch1.win.arr_unscoped launch1.win.arr_inj c,
        show (rdat1 m c).arrays A = (rdats m 1 c).arrays A from rfl,
        RDat.arrays_eq (pcfgs (F := F)) adm (rdats m) 1 c launch1.arr_whole ((rdat1 m c).share_full fun _ => rfl)]
      exact sep_mono (Entails.of_eq (bigSep_congr fun w _ => by rw [hw w]; rfl)) .rfl
    iintro ⟨Ha, HO, -, Hr⟩
    ihave Ha' := hsplit $$ Ha
    icases Ha' with ⟨%A, %hA, Ha⟩
    imodintro
    isplitr [HO]
    · iexists (⟨A 5, hA 5⟩ : Γ m c)
      iapply (hjoin A hA)
      isplitl [Ha]; · iexact Ha
      iexact Hr
    · unfold RDat.owesAt Pipeline.owesWithin
      icases HO with ⟨%W, -, HO⟩; iexists W; iexact HO

/-- What core `c`'s memory holds at the end: for some contents the feed-forward call may leave, the three results as the
    last host operations compute them, and the arguments as launched. -/
def EndsAt (c : Dev nD) (s : MemSt nD τ sig (Elt F)) : Prop :=
  (∃ f : Buf (Elt F) ((c : Thread nD τ).loc main_v3), (rdat1 m c).ArrAt 5 cfg1.N f
    ∧ s.mem ((c : Thread nD τ).loc main_v4) = W5 m c f main_v4
    ∧ s.mem ((c : Thread nD τ).loc main_v5) = W5 m c f main_v5
    ∧ s.mem ((c : Thread nD τ).loc main_v6) = W5 m c f main_v6)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem endsAt_of_held (c : Dev nD) (f : Buf (Elt F) ((c : Thread nD τ).loc main_v3)) (hf : (rdat1 m c).ArrAt 5 cfg1.N f)
    (s : MemSt nD τ sig (Elt F)) (h : ∀ b ∈ Pipeline.ucRefs τ sig, s.mem ((c : Thread nD τ).1, b) = W5 m c f b) : EndsAt m c s := by
  have hr : ∀ r : Ref sig .tc, r.isScoped = false → s.mem ((c : Thread nD τ).loc r) = W5 m c f r := fun r hr =>
    h (Proc.devRef .tc r) (Finset.mem_filter.mpr ⟨StableHlo.devRef_mem_tcRefs r, by
      rw [show (Proc.devRef (τ := τ) .tc r).isScoped = r.isScoped from rfl, hr]; decide⟩)
  refine ⟨⟨f, hf, hr main_v4 rfl, hr main_v5 rfl, hr main_v6 rfl⟩, ?_⟩
  refine ⟨(hr main_arg0 rfl).trans ?_, (hr main_arg1 rfl).trans ?_, (hr main_arg2 rfl).trans ?_, (hr main_arg3 rfl).trans ?_, (hr main_arg4 rfl).trans ?_⟩
  · rw [W5_eq]; exact V5_main_arg0 m _ c
  · rw [W5_eq]; exact V5_main_arg1 m _ c
  · rw [W5_eq]; exact V5_main_arg2 m _ c
  · rw [W5_eq]; exact V5_main_arg3 m _ c
  · rw [W5_eq]; exact V5_main_arg4 m _ c

/-- @main as its five items. -/
abbrev runSegs : List (RDat.Seg (pcfgs (F := F)) adm (rdats m) () defs₀ Variants.none L lv) :=
  [.host (seg0 m Variants.none L lv (fun _ => R)), .region (reg0 m), .host (hseg2 m), .region (reg1 m), .host (hseg4 m)]

set_option backward.isDefEq.respectTransparency.types false in
/-- THE RUN: from any memory with zero counters, every execution of @main terminates with every core's memory as
    `EndsAt` says and every semaphore counter at zero. -/
theorem run_main (ρ : Dev nD → PrngReg) :
    θ_run defs (onTc (τ := τ) (main (F := F))) ⟨m, fun _ => 0, ρ⟩ (fun r => (∀ c : Dev nD, EndsAt m c r.2) ∧ r.2.sem = fun _ => 0) := by
  refine RDat.θ_run_regions_kit_dev_sems (pcfgs (F := F)) adm (rdats m) () cellOf_inj (emb₁ : Emb (UR sig nD τ) 𝕄) defs₀ Variants.none L lv m ρ main
    (fun _ => runSegs m)
    (fun c Q => by
      rewrite [main_chain c, RDat.Seg.run_eq_chain,
        show (runSegs m).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [runSegs, RDat.Seg.pipes_host, RDat.Seg.pipes_region, RDat.Seg.pipes_nil]; decide) 0 (fun _ _ => rfl) (fun _ => iprop(emp))
    (initOf (Pipeline.cells cfgs cellOf_inj) (Pipeline.launchToks cfgs cellOf_inj)) ?_
    (fun c => iprop(StableHlo.held (c : Thread nD τ) (Pipeline.ucRefs τ sig) (V0 m c) ∗ R c))
    (fun c => iprop(∃ γ : Γ m c, StableHlo.held (c : Thread nD τ) (Pipeline.ucRefs τ sig) (W5 m c γ.1)))
    (fun c => ⟨.rfl, .rfl, .rfl, .rfl, .rfl, .rfl⟩) ?_ (fun c s => EndsAt m c s) (fun c s' => ?_)
    (fun _ h hz => ⟨h, funext fun g => hz g (.inr (regions_no_unscoped g.2))⟩)
  · iintro Hu
    imodintro
    isplitl [Hu]; · iapply (show (ownU _ : sProp 𝕄) ⊢ BI.own (emb₁ (initOf (Pipeline.cells (Pipeline.pin pcfgs adm) cellOf_inj) (Pipeline.launchToks (Pipeline.pin pcfgs adm) cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨⟨%γ, Hh⟩, HSI⟩
    ihave Hr := (pointsTo_read_all (Pipeline.ucRefs τ sig) (fun b => ((c : Thread nD τ).1, b)) (W5 m c γ.1) s') $$ [Hh HSI]
    · isplitl [Hh] <;> iassumption
    icases Hr with ⟨%h, HSI⟩
    imodintro
    isplitr
    · ipureintro
      exact endsAt_of_held m c γ.1 γ.2 _ h
    · iexact HSI

end Cert.KernelIdeal.Body
end
-- ==== Proof.Whole.Frames.lean ====
/-
  The three programs run, leave their arguments unchanged, and end with every semaphore counter at zero.
-/
module

public import proofs.«01_k».proof.Proof.Kernel.Run
public import proofs.«01_k».proof.Proof.KernelIdeal.Run
public import proofs.«01_k».proof.Proof.Gen.ReferenceIdeal.Run
public import Idealize.ShloMosaic.PureOps.BitExact
public import Idealize.ShloMosaic.PureOps.Ideal
public import Idealize.ShloMosaic.Lib.Quiescent

@[expose] public section

noncomputable section

namespace Cert.Whole

open Idealize.ShloMosaic Idealize.SL.Sem

/-- The kernel at the bit-exact instance: it terminates, its five arguments end as launched, every counter is zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  (θ_run _ _ _).mono (fun _ h => ⟨fun c => (h.1 c).2, h.2⟩) (Cert.Kernel.Body.run_main (F := Bits) m g)

/-- The kernel at the ideal instance: the same. -/
theorem kernelIdeal_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run _ _ _).mono (fun _ h => ⟨fun c => (h.1 c).2, h.2⟩) (Cert.KernelIdeal.Body.run_main (F := Ideal) m g)

/-- The reference at the ideal instance: it terminates, its arguments end as launched; it has no semaphore at all. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2, sem_eq_zero_of_no_sems (by decide) r.2⟩) (Cert.ReferenceIdeal.Value.run (F := Ideal) m g)

end Cert.Whole
end
-- ==== Proof.Ideal.Blocks.lean ====
/-
  What the feed-forward call's operand blocks hold, read at coordinates: the parts of the weight arrays inside the array,
  and the two whole operands.
-/
module

public import proofs.«01_k».proof.Proof.KernelIdeal.Run
public import Idealize.ShloMosaic.PureOps.Ideal
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.SL.Sem

/-! ## The grid point's coordinates and the blocks' places -/

theorem coord0 : ∀ t : Fin grid1.N, (grid1.coords t 0).val = t.val / 2 := by decide +kernel
theorem coord1 : ∀ t : Fin grid1.N, (grid1.coords t 1).val = t.val % 2 := by decide +kernel

theorem index1_2 : ∀ t : Fin grid1.N, win1_2.index t 0 = t.val / 2 ∧ win1_2.index t 1 = 0 ∧ win1_2.index t 2 = t.val % 2 := by decide +kernel
theorem index1_3 : ∀ t : Fin grid1.N, win1_3.index t 0 = t.val / 2 ∧ win1_3.index t 1 = 0 ∧ win1_3.index t 2 = t.val % 2 := by decide +kernel
theorem index1_4 : ∀ t : Fin grid1.N, win1_4.index t 0 = t.val / 2 ∧ win1_4.index t 1 = t.val % 2 ∧ win1_4.index t 2 = 0 := by decide +kernel

theorem xsize1_2 : ∀ t : Fin grid1.N, win1_2.xsize (grid1.coords t) 0 = 1 ∧ win1_2.xsize (grid1.coords t) 1 = 1024
    ∧ win1_2.xsize (grid1.coords t) 2 = min 1408 (2752 - 1408 * (t.val % 2)) := by decide +kernel
theorem xsize1_3 : ∀ t : Fin grid1.N, win1_3.xsize (grid1.coords t) 0 = 1 ∧ win1_3.xsize (grid1.coords t) 1 = 1024
    ∧ win1_3.xsize (grid1.coords t) 2 = min 1408 (2752 - 1408 * (t.val % 2)) := by decide +kernel
theorem xsize1_4 : ∀ t : Fin grid1.N, win1_4.xsize (grid1.coords t) 0 = 1
    ∧ win1_4.xsize (grid1.coords t) 1 = min 1408 (2752 - 1408 * (t.val % 2)) ∧ win1_4.xsize (grid1.coords t) 2 = 1024 := by decide +kernel

/-! ## The buffers the call reads -/

variable (m : (ℓ : Loc nD τ sig) → Buf (Elt Ideal) ℓ) (c : Dev nD)

/-- The weight arrays reach the feed-forward call as launched. -/
theorem W3_of (r : Ref sig .tc) (h1 : r ∉ hostOps1_W) (h : r ∉ ([main_v1_0, main_v1_1, main_v1_2] : List (Ref sig .tc))) (h0 : r ∉ hostOps0_W) :
    W3 m c r = m ((c : Thread nD τ).loc r) :=
  (StableHlo.after_of_writes_sub hostOps1 _ hostOps1_writes h1).trans ((W2_of m c r h).trans (V1_of m c r h0))

/-- The router's results reach the later operations as its call left them. -/
theorem W3_v1_0 : W3 m c main_v1_0 = fin0 m c 2 :=
  (StableHlo.after_of_writes_sub hostOps1 _ hostOps1_writes (by decide)).trans (W2_win m c 2).symm
theorem W3_v1_1 : W3 m c main_v1_1 = fin0 m c 3 :=
  (StableHlo.after_of_writes_sub hostOps1 _ hostOps1_writes (by decide)).trans (W2_win m c 3).symm
theorem W3_v1_2 : W3 m c main_v1_2 = fin0 m c 4 :=
  (StableHlo.after_of_writes_sub hostOps1 _ hostOps1_writes (by decide)).trans (W2_win m c 4).symm

/-- The tokens as rows. -/
theorem xIn_eq : xIn m c = shapeCast S2048x1024 (m ((c : Thread nD τ).loc main_arg0)) shapeCasts_S1x2048x1024_S2048x1024 := by
  unfold xIn V1
  rfl
theorem wrIn_eq : wrIn m c = m ((c : Thread nD τ).loc main_arg1) := V1_of m c main_arg1 (by decide)

/-- The tokens as the feed-forward call reads them: the same numbers. -/
theorem W3_v2 : W3 m c main_v2 = (xIn m c : S2048x1024.Idx → EReal) := by
  have h : W2 m c main_v0 = V1 m c main_v0 := W2_of m c main_v0 (by decide)
  funext j
  exact congrFun h j

/-! ## The results -/

theorem W5_v4 (f : Buf (Elt Ideal) ((c : Thread nD τ).loc main_v3)) :
    W5 m c f main_v4 = shapeCast S1x2048x1024 (f : S2048x1024.Idx → EReal) shapeCasts_S2048x1024_S1x2048x1024 := by
  have h : W4 m c f main_v3 = f := Function.update_self _ _ _
  funext j
  exact congrFun h _
theorem W5_v5 (f : Buf (Elt Ideal) ((c : Thread nD τ).loc main_v3)) :
    W5 m c f main_v5 = shapeCast S_ (fin0 m c 3 : S1x1.Idx → EReal) shapeCasts_S1x1_S_ := by
  have h : W4 m c f main_v1_1 = fin0 m c 3 := (W4_of m c f main_v1_1 (by decide)).trans (W3_v1_1 m c)
  funext j
  exact congrFun h _
theorem W5_v6 (f : Buf (Elt Ideal) ((c : Thread nD τ).loc main_v3)) :
    W5 m c f main_v6 = shapeCast S_ (fin0 m c 4 : S1x1.Idx → EReal) shapeCasts_S1x1_S_ := by
  have h : W4 m c f main_v1_2 = fin0 m c 4 := (W4_of m c f main_v1_2 (by decide)).trans (W3_v1_2 m c)
  funext j
  exact congrFun h _

/-! ## What the router's call leaves -/

theorem stg0_0 : stg0 m c 0 = xIn m c := by
  funext j
  refine congrArg (xIn m c) (funext fun a => Fin.ext ?_)
  match a with
  | ⟨0, _⟩ => show 0 + 1 * (j 0).val = (j 0).val; omega
  | ⟨1, _⟩ => show 0 + 1 * (j 1).val = (j 1).val; omega
theorem stg0_1 : stg0 m c 1 = wrIn m c := by
  funext j
  refine congrArg (wrIn m c) (funext fun a => Fin.ext ?_)
  match a with
  | ⟨0, _⟩ => show 0 + 1 * (j 0).val = (j 0).val; omega
  | ⟨1, _⟩ => show 0 + 1 * (j 1).val = (j 1).val; omega

theorem fin0_2 : fin0 m c 2 = routerWe (F := Ideal) (xIn m c) (wrIn m c) := by
  refine Pipeline.Dat.arrAt_eq_of_after_last (dat0 m c) 2 t0_0 (by decide +kernel) _ fun j => ?_
  rw [show (dat0 m c).after 2 t0_0 = routerWe (stg0 m c 0) (stg0 m c 1) from rfl, stg0_0, stg0_1]
  rfl
theorem fin0_3 : fin0 m c 3 = routerAux (F := Ideal) (xIn m c) (wrIn m c) := by
  refine Pipeline.Dat.arrAt_eq_of_after_last (dat0 m c) 3 t0_0 (by decide +kernel) _ fun j => ?_
  rw [show (dat0 m c).after 3 t0_0 = routerAux (stg0 m c 0) (stg0 m c 1) from rfl, stg0_0, stg0_1]
  rfl
theorem fin0_4 : fin0 m c 4 = routerZ (F := Ideal) (xIn m c) (wrIn m c) := by
  refine Pipeline.Dat.arrAt_eq_of_after_last (dat0 m c) 4 t0_0 (by decide +kernel) _ fun j => ?_
  rw [show (dat0 m c).after 4 t0_0 = routerZ (stg0 m c 0) (stg0 m c 1) from rfl, stg0_0, stg0_1]
  rfl

/-! ## The feed-forward call's blocks -/

/-- The whole operands' blocks. -/
theorem blk1_0 (t : Fin grid1.N) (d) : blk1 m c 0 t d = W3 m c main_v1_0 := by
  funext j
  refine congrArg (W3 m c main_v1_0) (funext fun a => Fin.ext ?_)
  match a with
  | ⟨0, _⟩ => show 0 * 2048 + 1 * (j 0).val = (j 0).val; omega
  | ⟨1, _⟩ => show 0 * 8 + 1 * (j 1).val = (j 1).val; omega
theorem blk1_1 (t : Fin grid1.N) (d) : blk1 m c 1 t d = W3 m c main_v2 := by
  funext j
  refine congrArg (W3 m c main_v2) (funext fun a => Fin.ext ?_)
  match a with
  | ⟨0, _⟩ => show 0 * 2048 + 1 * (j 0).val = (j 0).val; omega
  | ⟨1, _⟩ => show 0 * 1024 + 1 * (j 1).val = (j 1).val; omega

/-- The first weight block of a grid point, inside the array. -/
theorem blk1_2 (t : Fin grid1.N) (d) (k : Fin 1024) (h : Fin 1408) (hh : 1408 * (t.val % 2) + h.val < 2752) :
    blk1 m c 2 t d (ix3 (0 : Fin 1) k h) = W3 m c main_arg2 (ix3 (⟨t.val / 2, by have := t.isLt; change t.val < 16 at this; omega⟩ : Fin 8) k (⟨1408 * (t.val % 2) + h.val, hh⟩ : Fin 2752)) := by
  have hi := index1_2 t
  have hx := xsize1_2 t
  have hm : win1_2.moved (grid1.coords t) (ix3 (0 : Fin 1) k h) = true := by
    rw [Pipeline.Window.moved_iff]
    intro a
    match a with
    | ⟨0, _⟩ => exact lt_of_lt_of_eq Nat.zero_lt_one hx.1.symm
    | ⟨1, _⟩ => exact lt_of_lt_of_eq k.isLt hx.2.1.symm
    | ⟨2, _⟩ => refine lt_of_lt_of_eq ?_ hx.2.2.symm; show h.val < _; omega
  unfold blk1
  show win1_2.fill (grid1.coords t) d _ _ = _
  unfold Pipeline.Window.fill
  rw [dif_pos hm]
  show W3 m c main_arg2 _ = W3 m c main_arg2 _
  refine congrArg (W3 m c main_arg2) ?_
  funext a
  refine Fin.ext ?_
  match a with
  | ⟨0, _⟩ => show win1_2.index t 0 * 1 + 1 * 0 = t.val / 2; omega
  | ⟨1, _⟩ => show win1_2.index t 1 * 1024 + 1 * k.val = k.val; omega
  | ⟨2, _⟩ => show win1_2.index t 2 * 1408 + 1 * h.val = 1408 * (t.val % 2) + h.val; omega

/-- The second weight block of a grid point, inside the array. -/
theorem blk1_3 (t : Fin grid1.N) (d) (k : Fin 1024) (h : Fin 1408) (hh : 1408 * (t.val % 2) + h.val < 2752) :
    blk1 m c 3 t d (ix3 (0 : Fin 1) k h) = W3 m c main_arg3 (ix3 (⟨t.val / 2, by have := t.isLt; change t.val < 16 at this; omega⟩ : Fin 8) k (⟨1408 * (t.val % 2) + h.val, hh⟩ : Fin 2752)) := by
  have hi := index1_3 t
  have hx := xsize1_3 t
  have hm : win1_3.moved (grid1.coords t) (ix3 (0 : Fin 1) k h) = true := by
    rw [Pipeline.Window.moved_iff]
    intro a
    match a with
    | ⟨0, _⟩ => exact lt_of_lt_of_eq Nat.zero_lt_one hx.1.symm
    | ⟨1, _⟩ => exact lt_of_lt_of_eq k.isLt hx.2.1.symm
    | ⟨2, _⟩ => refine lt_of_lt_of_eq ?_ hx.2.2.symm; show h.val < _; omega
  unfold blk1
  show win1_3.fill (grid1.coords t) d _ _ = _
  unfold Pipeline.Window.fill
  rw [dif_pos hm]
  show W3 m c main_arg3 _ = W3 m c main_arg3 _
  refine congrArg (W3 m c main_arg3) ?_
  funext a
  refine Fin.ext ?_
  match a with
  | ⟨0, _⟩ => show win1_3.index t 0 * 1 + 1 * 0 = t.val / 2; omega
  | ⟨1, _⟩ => show win1_3.index t 1 * 1024 + 1 * k.val = k.val; omega
  | ⟨2, _⟩ => show win1_3.index t 2 * 1408 + 1 * h.val = 1408 * (t.val % 2) + h.val; omega

/-- The down block of a grid point, inside the array. -/
theorem blk1_4 (t : Fin grid1.N) (d) (h : Fin 1408) (k : Fin 1024) (hh : 1408 * (t.val % 2) + h.val < 2752) :
    blk1 m c 4 t d (ix3 (0 : Fin 1) h k) = W3 m c main_arg4 (ix3 (⟨t.val / 2, by have := t.isLt; change t.val < 16 at this; omega⟩ : Fin 8) (⟨1408 * (t.val % 2) + h.val, hh⟩ : Fin 2752) k) := by
  have hi := index1_4 t
  have hx := xsize1_4 t
  have hm : win1_4.moved (grid1.coords t) (ix3 (0 : Fin 1) h k) = true := by
    rw [Pipeline.Window.moved_iff]
    intro a
    match a with
    | ⟨0, _⟩ => exact lt_of_lt_of_eq Nat.zero_lt_one hx.1.symm
    | ⟨1, _⟩ => refine lt_of_lt_of_eq ?_ hx.2.1.symm; show h.val < _; omega
    | ⟨2, _⟩ => exact lt_of_lt_of_eq k.isLt hx.2.2.symm
  unfold blk1
  show win1_4.fill (grid1.coords t) d _ _ = _
  unfold Pipeline.Window.fill
  rw [dif_pos hm]
  show W3 m c main_arg4 _ = W3 m c main_arg4 _
  refine congrArg (W3 m c main_arg4) ?_
  funext a
  refine Fin.ext ?_
  match a with
  | ⟨0, _⟩ => show win1_4.index t 0 * 1 + 1 * 0 = t.val / 2; omega
  | ⟨1, _⟩ => show win1_4.index t 1 * 1408 + 1 * h.val = 1408 * (t.val % 2) + h.val; omega
  | ⟨2, _⟩ => show win1_4.index t 2 * 1024 + 1 * k.val = k.val; omega

end Cert.KernelIdeal.Body
end
-- ==== Proof.Ideal.Choice.lean ====
/-
  The router in plain mathematics: a token's gates, its first and second expert, and how many earlier tokens chose the
  same expert.
-/
module

public import Idealize.ShloMosaic.PureOps.Ideal

@[expose] public section

noncomputable section

namespace Cert.MoE

open Idealize.ShloMosaic

/-- The gates of a row of logits: exponentials of the differences to the maximum over their sum. -/
def gates (l : Fin 8 → EReal) (e : Fin 8) : EReal :=
  Ideal.div (Ideal.exp (l e - Finset.univ.sup l)) (∑ e', Ideal.exp (l e' - Finset.univ.sup l))

theorem attained (g : Fin 8 → EReal) : (Finset.univ.filter fun e => g e = Finset.univ.sup g).Nonempty := by
  obtain ⟨i, hi, h⟩ := Finset.exists_mem_eq_sup (Finset.univ : Finset (Fin 8)) ⟨0, Finset.mem_univ 0⟩ g
  exact ⟨i, Finset.mem_filter.mpr ⟨hi, h.symm⟩⟩

/-- The first position of a row's maximum. -/
def first (g : Fin 8 → EReal) : Fin 8 := (Finset.univ.filter fun e => g e = Finset.univ.sup g).min' (attained g)

theorem first_eq (g : Fin 8 → EReal) : g (first g) = Finset.univ.sup g :=
  (Finset.mem_filter.mp (Finset.min'_mem _ (attained g))).2

theorem first_le (g : Fin 8 → EReal) (e : Fin 8) (h : g e = Finset.univ.sup g) : first g ≤ e :=
  Finset.min'_le _ _ (Finset.mem_filter.mpr ⟨Finset.mem_univ e, h⟩)

theorem le_first (g : Fin 8 → EReal) (e : Fin 8) : g e ≤ g (first g) := by
  rw [first_eq g]; exact Finset.le_sup (f := g) (Finset.mem_univ e)

theorem lt_first (g : Fin 8 → EReal) (e : Fin 8) (h : e < first g) : g e < g (first g) :=
  lt_of_le_of_ne (le_first g e) fun h' => absurd (first_le g e (h'.trans (first_eq g))) (not_le.mpr h)

/-- A row with the first maximum struck out. -/
def rest (g : Fin 8 → EReal) (e : Fin 8) : EReal := if e = first g then ⊥ else g e

/-- The second choice: the first maximum of the rest. -/
def second (g : Fin 8 → EReal) : Fin 8 := first (rest g)

theorem rest_first (g : Fin 8 → EReal) : rest g (first g) = ⊥ := if_pos rfl

theorem rest_of_ne (g : Fin 8 → EReal) {e : Fin 8} (h : e ≠ first g) : rest g e = g e := if_neg h

/-- Where no entry is minus infinity the second choice differs from the first … -/
theorem second_ne (g : Fin 8 → EReal) (hg : ∀ e, g e ≠ ⊥) : second g ≠ first g := by
  intro h
  have h1 : rest g (second g) = ⊥ := by rw [h, rest_first]
  obtain ⟨e, he⟩ : ∃ e, e ≠ first g := exists_ne _
  have h2 := le_first (rest g) e
  rw [rest_of_ne g he] at h2
  exact hg e (le_bot_iff.mp (h2.trans (le_of_eq h1)))

/-- … so its value in the row without the first is its value in the row. -/
theorem sup_rest (g : Fin 8 → EReal) (hg : ∀ e, g e ≠ ⊥) : Finset.univ.sup (rest g) = g (second g) := by
  rw [← first_eq (rest g)]
  exact rest_of_ne g (second_ne g hg)

/-- The first and the second choice are the first two sources of a row ordered by decreasing value, equal values by
    position. -/
theorem second_max (g : Fin 8 → EReal) (hg : ∀ e, g e ≠ ⊥) (e : Fin 8) (h1 : e ≠ first g) :
    g e ≤ g (second g) ∧ (e < second g → g e < g (second g)) := by
  have hs : rest g (first (rest g)) = g (second g) := rest_of_ne g (second_ne g hg)
  refine ⟨?_, fun h => ?_⟩
  · have := le_first (rest g) e; rwa [rest_of_ne g h1, hs] at this
  · have := lt_first (rest g) e h; rwa [rest_of_ne g h1, hs] at this

/-! ## Counting -/

/-- Whether token `i` chose expert `e`, as a number; zero past the last token. -/
def hit (a : Fin 2048 → Fin 8) (e : Fin 8) (i : ℕ) : ℕ := if h : i < 2048 then (if a ⟨i, h⟩ = e then 1 else 0) else 0

theorem hit_fin (a : Fin 2048 → Fin 8) (e : Fin 8) (n : Fin 2048) : hit a e n.val = if a n = e then 1 else 0 := dif_pos n.isLt

/-- How many of the first `k` tokens chose expert `e`. -/
def tally (a : Fin 2048 → Fin 8) (e : Fin 8) (k : ℕ) : ℕ := ∑ i ∈ Finset.range k, hit a e i

theorem tally_add (a : Fin 2048 → Fin 8) (e : Fin 8) (k r : ℕ) :
    tally a e (k + r) = tally a e k + ∑ i ∈ Finset.range r, hit a e (k + i) := Finset.sum_range_add _ _ _

theorem tally_le (a : Fin 2048 → Fin 8) (e : Fin 8) (k : ℕ) : tally a e k ≤ k := by
  unfold tally
  refine (Finset.sum_le_card_nsmul _ _ 1 fun i _ => ?_).trans (by simp)
  unfold hit; split_ifs <;> omega

/-! ## The weights and the two losses -/

/-- A kept value: the token chose the expert, and at most 640 tokens up to and including it did. -/
def kept (a : Fin 2048 → Fin 8) (v : Fin 2048 → EReal) (n : Fin 2048) (e : Fin 8) : EReal :=
  if a n = e ∧ tally a e (n.val + 1) ≤ 640 then v n else 0

/-- The router's weights from its logits. -/
def weight (l : Fin 2048 → Fin 8 → EReal) (n : Fin 2048) (e : Fin 8) : EReal :=
  kept (fun n => first (gates (l n))) (fun n => Finset.univ.sup (gates (l n))) n e
    + kept (fun n => second (gates (l n))) (fun n => Finset.univ.sup (rest (gates (l n)))) n e

/-- The load-balance loss from the logits. -/
def balance (l : Fin 2048 → Fin 8 → EReal) : EReal :=
  8 * ∑ e, Ideal.div (∑ n, gates (l n) e) 2048 * Ideal.div (tally (fun n => first (gates (l n))) e 2048 : ℕ) 2048

/-- The mean square of the logits. -/
def meanSquare (l : Fin 2048 → Fin 8 → EReal) : EReal := Ideal.div (∑ n, ∑ e, l n e * l n e) 16384

/-- The logits: the tokens times the router's matrix. -/
def logits (x : Fin 2048 → Fin 1024 → EReal) (w : Fin 1024 → Fin 8 → EReal) (n : Fin 2048) (e : Fin 8) : EReal := ∑ k, x n k * w k e

/-! ## Finite logits -/

/-- The gates of finite logits are nonnegative reals. -/
theorem gates_real (l : Fin 8 → EReal) (hl : ∀ e, l e ≠ ⊥ ∧ l e ≠ ⊤) (e : Fin 8) : ∃ q : ℝ, 0 ≤ q ∧ gates l e = (q : EReal) := by
  have hr : ∀ e, l e = ((l e).toReal : EReal) := fun e => (EReal.coe_toReal (hl e).2 (hl e).1).symm
  have hs : Finset.univ.sup l = ((l (first l)).toReal : EReal) := (first_eq l).symm.trans (hr _)
  have hx : ∀ e, Ideal.exp (l e - Finset.univ.sup l) = ((Real.exp ((l e).toReal - (l (first l)).toReal) : ℝ) : EReal) := fun e => by
    rw [hs, hr e, ← EReal.coe_sub, EReal.toReal_coe]; rfl
  have hsum : (∑ e', Ideal.exp (l e' - Finset.univ.sup l)) = ((∑ e', Real.exp ((l e').toReal - (l (first l)).toReal) : ℝ) : EReal) := by
    simp only [hx]
    exact (map_sum (⟨⟨Real.toEReal, rfl⟩, EReal.coe_add⟩ : ℝ →+ EReal) _ _).symm
  have hpos : 0 < ∑ e' : Fin 8, Real.exp ((l e').toReal - (l (first l)).toReal) :=
    Finset.sum_pos (fun _ _ => Real.exp_pos _) ⟨0, Finset.mem_univ 0⟩
  unfold gates
  rw [hsum, hx e]
  unfold Ideal.div
  rw [if_neg (by exact_mod_cast hpos.ne'), ← EReal.coe_inv, ← EReal.coe_mul]
  exact ⟨_, mul_nonneg (Real.exp_pos _).le (inv_nonneg.mpr hpos.le), rfl⟩

theorem gates_ne_bot (l : Fin 8 → EReal) (hl : ∀ e, l e ≠ ⊥ ∧ l e ≠ ⊤) (e : Fin 8) : gates l e ≠ ⊥ := by
  obtain ⟨q, _, h⟩ := gates_real l hl e
  rw [h]; exact EReal.coe_ne_bot q

/-- The weights of finite logits are nonnegative and finite. -/
theorem weight_real (l : Fin 2048 → Fin 8 → EReal) (hl : ∀ n e, l n e ≠ ⊥ ∧ l n e ≠ ⊤) (n : Fin 2048) (e : Fin 8) :
    0 ≤ weight l n e ∧ weight l n e ≠ ⊤ := by
  have h1 : ∃ q : ℝ, 0 ≤ q ∧ Finset.univ.sup (gates (l n)) = (q : EReal) := by
    rw [← first_eq]; exact gates_real (l n) (hl n) _
  have h2 : ∃ q : ℝ, 0 ≤ q ∧ Finset.univ.sup (rest (gates (l n))) = (q : EReal) := by
    rw [sup_rest _ (gates_ne_bot (l n) (hl n))]; exact gates_real (l n) (hl n) _
  have hk : ∀ (a : Fin 2048 → Fin 8) (v : Fin 2048 → EReal), (∃ q : ℝ, 0 ≤ q ∧ v n = (q : EReal)) →
      ∃ q : ℝ, 0 ≤ q ∧ kept a v n e = (q : EReal) := fun a v hv => by
    unfold kept; split_ifs
    · exact hv
    · exact ⟨0, le_rfl, rfl⟩
  obtain ⟨q1, p1, e1⟩ := hk (fun n => first (gates (l n))) (fun n => Finset.univ.sup (gates (l n))) h1
  obtain ⟨q2, p2, e2⟩ := hk (fun n => second (gates (l n))) (fun n => Finset.univ.sup (rest (gates (l n)))) h2
  unfold weight
  rw [e1, e2, ← EReal.coe_add]
  exact ⟨by exact_mod_cast add_nonneg p1 p2, EReal.coe_ne_top _⟩

/-- Finite tokens and a finite router matrix give finite logits. -/
theorem logits_real (x : Fin 2048 → Fin 1024 → EReal) (w : Fin 1024 → Fin 8 → EReal) (hx : ∀ n k, x n k ≠ ⊥ ∧ x n k ≠ ⊤)
    (hw : ∀ k e, w k e ≠ ⊥ ∧ w k e ≠ ⊤) (n : Fin 2048) (e : Fin 8) : logits x w n e ≠ ⊥ ∧ logits x w n e ≠ ⊤ := by
  have h : logits x w n e = ((∑ k, (x n k).toReal * (w k e).toReal : ℝ) : EReal) := by
    refine Eq.trans ?_ (map_sum (⟨⟨Real.toEReal, rfl⟩, EReal.coe_add⟩ : ℝ →+ EReal) _ _).symm
    refine Finset.sum_congr rfl fun k _ => ?_
    show x n k * w k e = (((x n k).toReal * (w k e).toReal : ℝ) : EReal)
    rw [EReal.coe_mul, EReal.coe_toReal (hx n k).2 (hx n k).1, EReal.coe_toReal (hw k e).2 (hw k e).1]
  rw [h]; exact ⟨EReal.coe_ne_bot _, EReal.coe_ne_top _⟩

end Cert.MoE
end
-- ==== Proof.Ideal.Words.lean ====
/-
  The numbers the programs write as words, and the first set position of eight as the least of eight words.
-/
module

public import Idealize.ShloMosaic.PureOps.Ideal
public import Idealize.ShloMosaic.Lib.Pointwise
public import proofs.«01_k».proof.Proof.Ideal.Choice

@[expose] public section

noncomputable section

namespace Cert.MoE

open Idealize.ShloMosaic

theorem lit_bot : Ideal.ofBits .f32 0xFF800000#32 = (⊥ : EReal) := by simp [Ideal.ofBits, Ideal.ieee]
theorem lit_top : Ideal.ofBits .f32 0x7F800000#32 = (⊤ : EReal) := by simp [Ideal.ofBits, Ideal.ieee]
theorem lit_2048 : Ideal.ofBits .f32 0x45000000#32 = (2048 : EReal) := by
  simp [Ideal.ofBits, Ideal.ieee]; rw [← EReal.coe_mul]; norm_num; try rfl
theorem lit_640 : Ideal.ofBits .f32 0x44200000#32 = (640 : EReal) := by
  simp [Ideal.ofBits, Ideal.ieee]; rw [← EReal.coe_mul]; norm_num; try rfl
theorem lit_8 : Ideal.ofBits .f32 0x41000000#32 = (8 : EReal) := by
  simp [Ideal.ofBits, Ideal.ieee]; rw [← EReal.coe_mul]; norm_num; try rfl
theorem lit_16384 : Ideal.ofBits .f32 0x46800000#32 = (16384 : EReal) := by
  simp [Ideal.ofBits, Ideal.ieee]; rw [← EReal.coe_mul]; norm_num; try rfl
theorem lit_inv2048 : Ideal.ofBits .f32 0x3A000000#32 = ((1 / 2048 : ℝ) : EReal) := by
  simp [Ideal.ofBits, Ideal.ieee]; rw [← EReal.coe_mul]; norm_num

/-- The least of eight words, each its position where set and eight elsewhere, is the first set position. -/
theorem least_set : ∀ (p : Fin 8 → Bool) (i : Fin 8), p i = true → (∀ j, j < i → p j = false) →
    Finset.fold IntOp.minsi (2147483647#32) (fun e : Fin 8 => if p e = true then BitVec.ofNat 32 e.val else 8#32) Finset.univ = BitVec.ofNat 32 i.val := by
  decide +kernel

/-- So at the positions of a row's maximum it is the first choice. -/
theorem least_max (g : Fin 8 → EReal) (v : EReal) (hv : v = Finset.univ.sup g) :
    Finset.fold IntOp.minsi (2147483647#32) (fun e : Fin 8 => if g e = v then BitVec.ofNat 32 e.val else 8#32) Finset.univ
      = BitVec.ofNat 32 (first g).val := by
  subst hv
  have h := least_set (fun e => decide (g e = Finset.univ.sup g)) (first g) (decide_eq_true (first_eq g))
    (fun j hj => decide_eq_false fun h => absurd (first_le g j h) (not_le.mpr hj))
  simpa only [decide_eq_true_eq] using h

theorem fold_max (g : Fin 8 → EReal) : Finset.fold max (Ideal.ofBits .f32 0xFF800000#32) g Finset.univ = Finset.univ.sup g := by
  rw [lit_bot]; rfl

/-! ## Comparisons of small words -/

/-- The signed comparison of two naturals that are below `2 ^ 31`. -/
theorem slt_small (a b : ℕ) (ha : a < 2 ^ 31) (hb : b < 2 ^ 31) :
    IntOp.cmpi .slt (BitVec.ofNat 32 a) (BitVec.ofNat 32 b) = if a < b then 1#1 else 0#1 := by
  have h1 : (BitVec.ofNat 32 a).toInt = a := by
    rw [BitVec.toInt_eq_toNat_cond, BitVec.toNat_ofNat]; split <;> omega
  have h2 : (BitVec.ofNat 32 b).toInt = b := by
    rw [BitVec.toInt_eq_toNat_cond, BitVec.toNat_ofNat]; split <;> omega
  have : (BitVec.ofNat 32 a).slt (BitVec.ofNat 32 b) = decide (a < b) := by
    rw [BitVec.slt, h1, h2]; simp
  show BitVec.ofBool ((BitVec.ofNat 32 a).slt (BitVec.ofNat 32 b)) = _
  rw [this]; by_cases h : a < b <;> simp [h]

/-- The signed "at least" of two small naturals. -/
theorem sge_small (a b : ℕ) (ha : a < 2 ^ 31) (hb : b < 2 ^ 31) :
    IntOp.cmpi .sge (BitVec.ofNat 32 a) (BitVec.ofNat 32 b) = if b ≤ a then 1#1 else 0#1 := by
  have h1 : (BitVec.ofNat 32 a).toInt = a := by
    rw [BitVec.toInt_eq_toNat_cond, BitVec.toNat_ofNat]; split <;> omega
  have h2 : (BitVec.ofNat 32 b).toInt = b := by
    rw [BitVec.toInt_eq_toNat_cond, BitVec.toNat_ofNat]; split <;> omega
  have : (BitVec.ofNat 32 b).sle (BitVec.ofNat 32 a) = decide (b ≤ a) := by
    rw [BitVec.sle, h1, h2]; simp
  show BitVec.ofBool ((BitVec.ofNat 32 b).sle (BitVec.ofNat 32 a)) = _
  rw [this]; by_cases h : b ≤ a <;> simp [h]

theorem eq_small (a b : ℕ) (ha : a < 2 ^ 31) (hb : b < 2 ^ 31) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · have : BitVec.ofNat 32 a ≠ BitVec.ofNat 32 b := fun h' => h (by
      have := congrArg BitVec.toNat h'
      simp only [BitVec.toNat_ofNat] at this; omega)
    rw [if_neg h, beq_false_of_ne this]; rfl

/-- A one-bit word read as a number. -/
theorem bit_number (p : Prop) [Decidable p] :
    (FloatOps.sitofp (F := Ideal) .f32 (BitVec.setWidth 32 (if p then 1#1 else 0#1)) : EReal) = if p then 1 else 0 := by
  split_ifs
  · show (((BitVec.setWidth 32 1#1).toInt : ℝ) : EReal) = 1
    have : (BitVec.setWidth 32 1#1).toInt = 1 := by decide
    rw [this]; norm_num
  · show (((BitVec.setWidth 32 0#1).toInt : ℝ) : EReal) = 0
    have : (BitVec.setWidth 32 0#1).toInt = 0 := by decide
    rw [this]; norm_num

end Cert.MoE
end
-- ==== Proof.Ideal.FfnValue.lean ====
/-
  What one grid point of the feed-forward kernel leaves in its accumulator, read at an index.
-/
module

public import proofs.«01_k».proof.Proof.KernelIdeal.Spec
public import Idealize.ShloMosaic.PureOps.Ideal
public import Idealize.ShloMosaic.Lib.Pointwise
public import proofs.«01_k».proof.Proof.Ideal.Words

@[expose] public section

set_option maxRecDepth 16384

noncomputable section

namespace Cert.KernelIdeal.Body

open Cert.KernelIdeal Cert.KernelIdeal.Gen
open Idealize.ShloMosaic Idealize.ShloMosaic.TcCoe Idealize.SL.Sem
open Cert.MoE

/-- How many hidden lanes of block `b` are inside the array, as the word the kernel computes. -/
theorem valid_word (b : ℕ) (hb : b < 2) :
    Scalar.minsi 1408#32 (Scalar.subi 2752#32 (Scalar.muli (BitVec.ofNat 32 b) 1408#32)) = BitVec.ofNat 32 (min 1408 (2752 - 1408 * b)) := by
  interval_cases b <;> decide

/-- Whether hidden lane `l` of block `b` is inside the array of 2752 lanes. -/
abbrev inH (b l : ℕ) : Prop := 1408 * b + l < 2752

theorem valid_slt (b l : ℕ) (hb : b < 2) (hl : l < 1408) :
    IntOp.cmpi .slt (BitVec.ofNat 32 l) (Scalar.minsi 1408#32 (Scalar.subi 2752#32 (Scalar.muli (BitVec.ofNat 32 b) 1408#32)))
      = if inH b l then 1#1 else 0#1 := by
  rw [valid_word b hb, slt_small _ _ (by omega) (by omega)]
  refine if_congr ?_ rfl rfl
  unfold inH
  omega

theorem gp1_lt (i : grid1.Coords) : (i 1).val < 2 := (i 1).isLt
theorem gp0_lt (i : grid1.Coords) : (i 0).val < 8 := (i 0).isLt

/-- The lane mask at a lane. -/
theorem pay5_apply (i : grid1.Coords) (r : Fin 256) (l : Fin 1408) :
    k1_pay5 i (ix2 r l) = if inH (i 1).val l.val then 1#1 else 0#1 := by
  pointwise [k1_pay5]
  exact valid_slt _ _ (gp1_lt i) l.isLt

/-- A weight block is read without its leading axis. -/
theorem pay6_apply (w : Vec Ideal S1x1024x1408 .f32) (r : Fin 1024) (l : Fin 1408) :
    k1_pay6 (F := Ideal) w (ix2 r l) = w (ix3 0 r l) := by
  pointwise [k1_pay6]

/-- The same of the second weight block. -/
theorem pay7_apply (w : Vec Ideal S1x1024x1408 .f32) (r : Fin 1024) (l : Fin 1408) :
    k1_pay7 (F := Ideal) w (ix2 r l) = w (ix3 0 r l) := by
  pointwise [k1_pay7]

/-- The down block: zero on the rows outside the array. -/
theorem pay8_apply (i : grid1.Coords) (w : Vec Ideal S1x1408x1024 .f32) (r : Fin 1408) (l : Fin 1024) :
    k1_pay8 (F := Ideal) i w (ix2 r l) = if inH (i 1).val r.val then w (ix3 0 r l) else (0 : EReal) := by
  pointwise [k1_pay8]
  rw [valid_slt _ _ (gp1_lt i) r.isLt]
  by_cases h : inH (i 1).val r.val <;> simp [h, Scalar.select]

/-- A number below `2 ^ 32` is its word. -/
theorem ofNat_inj_small {a b : ℕ} (ha : a < 2 ^ 32) (hb : b < 2 ^ 32) : BitVec.ofNat 32 a = BitVec.ofNat 32 b ↔ a = b := by
  constructor
  · intro h; have := congrArg BitVec.toNat h; simp only [BitVec.toNat_ofNat] at this; omega
  · rintro rfl; rfl

/-- A 0/1 indicator of an equality of words, as a number. -/
theorem ind_eq (a b : ℕ) (ha : a < 2 ^ 32) (hb : b < 2 ^ 32) :
    (FloatOps.sitofp (F := Ideal) FTy.f32 (BitVec.setWidth 32 (IntOp.cmpi .eq (BitVec.ofNat 32 a) (BitVec.ofNat 32 b))) : EReal)
      = if a = b then 1 else 0 := by
  by_cases h : a = b
  · subst h
    rw [if_pos rfl, show IntOp.cmpi .eq (BitVec.ofNat 32 a) (BitVec.ofNat 32 a) = 1#1 from by simp [IntOp.cmpi]]
    show (((BitVec.setWidth 32 1#1).toInt : ℝ) : EReal) = 1
    norm_num
  · have hn : BitVec.ofNat 32 a ≠ BitVec.ofNat 32 b := fun e => h ((ofNat_inj_small ha hb).mp e)
    rw [if_neg h, show IntOp.cmpi .eq (BitVec.ofNat 32 a) (BitVec.ofNat 32 b) = 0#1 from by show BitVec.ofBool (_ == _) = _; rw [beq_eq_false_iff_ne.mpr hn]; rfl]
    show (((BitVec.setWidth 32 0#1).toInt : ℝ) : EReal) = 0
    norm_num

/-- A row against an indicator picks one entry. -/
theorem sum_ind (f : Fin 8 → EReal) (e0 : Fin 8) :
    (∑ e : Fin 8, f e * (FloatOps.sitofp (F := Ideal) FTy.f32
      (BitVec.setWidth 32 (IntOp.cmpi .eq (BitVec.ofNat 32 e.val) (BitVec.ofNat 32 e0.val))) : EReal)) = f e0 := by
  rw [Finset.sum_eq_single e0]
  · rw [ind_eq _ _ (by omega) (by omega), if_pos rfl, mul_one]
  · intro e _ he
    rw [ind_eq _ _ (by omega) (by omega), if_neg (fun h => he (Fin.ext h)), mul_zero]
  · intro h; exact absurd (Finset.mem_univ _) h

/-- The weight column of a grid point: the weights of its expert. -/
theorem pay4_apply (i : grid1.Coords) (we : Vec Ideal S2048x8 .f32) (n : Fin 2048) (z : Fin 1) :
    k1_pay4 (F := Ideal) i we (ix2 n z) = we (ix2 n (⟨(i 0).val, gp0_lt i⟩ : Fin 8)) := by
  pointwise [k1_pay4]
  exact sum_ind (fun e => we (ix2 n e)) (⟨(i 0).val, gp0_lt i⟩ : Fin 8)

/-- The accumulator of a grid point at an index: what it started from plus the block's hidden lanes times the weight. -/
def ffnG (i : grid1.Coords) (we : FVec Ideal S2048x8 .f32) (x : FVec Ideal S2048x1024 .bf16)
    (wg wu : FVec Ideal S1x1024x1408 .f32) (wd : FVec Ideal S1x1408x1024 .f32) (Z : FVec Ideal S2048x1024 .f32)
    (j : S2048x1024.Idx) : EReal :=
  Z j + (∑ h : Fin 1408, if inH (i 1).val h.val then
      ((∑ k : Fin 1024, x (ix2 (j 0) k) * wg (ix3 0 k h)) * Ideal.logistic (∑ k : Fin 1024, x (ix2 (j 0) k) * wg (ix3 0 k h))
        * ∑ k : Fin 1024, x (ix2 (j 0) k) * wu (ix3 0 k h)) * wd (ix3 0 h (j 1)) else 0)
    * we (ix2 (j 0) (⟨(i 0).val, gp0_lt i⟩ : Fin 8))

/-- One chunk of rows, over the loaded blocks. -/
theorem ffnChunk_apply (i : grid1.Coords) (k : ℕ) (hk : k < 8) (we : Vec Ideal S2048x8 .f32)
    (wg wu : Vec Ideal S1x1024x1408 .f32) (wd : Vec Ideal S1x1408x1024 .f32) (x : Vec Ideal S256x1024 .bf16) (acc : Vec Ideal S256x1024 .f32)
    (X : FVec Ideal S2048x1024 .bf16) (Z : FVec Ideal S2048x1024 .f32)
    (hx : ∀ (r : Fin 256) (c : Fin 1024), x (ix2 r c) = X (ix2 (⟨256 * k + r.val, by omega⟩ : Fin 2048) c))
    (hz : ∀ (r : Fin 256) (c : Fin 1024), acc (ix2 r c) = Z (ix2 (⟨256 * k + r.val, by omega⟩ : Fin 2048) c))
    (r : Fin 256) (c : Fin 1024) :
    ffnChunk (F := Ideal) (offR k) (slicesC k hk) (k1_pay4 i we) (k1_pay5 i) (k1_pay6 wg) (k1_pay7 wu) (k1_pay8 i wd) x acc (ix2 r c)
      = ffnG i we X wg wu wd Z (ix2 (⟨256 * k + r.val, by omega⟩ : Fin 2048) c) := by
  pointwise [ffnChunk, hidChunk, offR, ffnG]
  simp only [pay4_apply]
  refine Ideal.add_congr (hz r c) (Ideal.mul_congr (Finset.sum_congr rfl fun h _ => ?_) rfl)
  simp only [pay5_apply, pay6_apply, pay7_apply, pay8_apply, hx]
  by_cases hh : inH (i 1).val h.val <;> simp [hh, Scalar.select]

section
variable (i : grid1.Coords) (we : S2048x8.Idx → Elt Ideal .f32) (x : S2048x1024.Idx → Elt Ideal .bf16)
  (wg wu : S1x1024x1408.Idx → Elt Ideal .f32) (wd : S1x1408x1024.Idx → Elt Ideal .f32) (Z : S2048x1024.Idx → Elt Ideal .f32)

/-- One store of a grid point holds its rows of the accumulator. -/
theorem ffnAt_apply (k : ℕ) (hk : k < 8) (inb : ∀ a, (![256 * k, 0] : Fin 2 → ℕ) a + S256x1024.size a ≤ S2048x1024.size a)
    (y : S256x1024.Idx) :
    ffnAt i we wg wu wd k hk (View.ld x (Rect.unit (s := S2048x1024) ![256 * k, 0] S256x1024.size inb))
      (View.ld Z (Rect.unit (s := S2048x1024) ![256 * k, 0] S256x1024.size inb)) y
    = ffnG i we x wg wu wd Z ((Rect.unit (s := S2048x1024) ![256 * k, 0] S256x1024.size inb).emb y) := by
  have e : (Rect.unit (s := S2048x1024) ![256 * k, 0] S256x1024.size inb).emb y
      = (ix2 (⟨256 * k + (y 0).val, by have := (y 0).isLt; change (y 0).val < 256 at this; omega⟩ : Fin 2048) (y 1 : Fin 1024) : S2048x1024.Idx) := by
    funext a
    refine Fin.ext ?_
    match a with
    | ⟨0, _⟩ => show 256 * k + 1 * (y 0).val = 256 * k + (y 0).val; omega
    | ⟨1, _⟩ => show 0 + 1 * (y 1).val = (y 1).val; omega
  rw [e]
  unfold ffnAt
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  conv_lhs => rw [eq_ix2 y]
  refine ffnChunk_apply i k hk we wg wu wd _ _ x Z ?_ ?_ (y 0) (y 1)
  · intro r c; pointwise
  · intro r c; pointwise

/-- The accumulator after a grid point, at an index. -/
theorem ffnOut_apply (j : S2048x1024.Idx) : ffnOut (F := Ideal) i we x wg wu wd Z j = ffnG i we x wg wu wd Z j := by
  have key : ∀ p ∈ ffnPieces (F := Ideal) i we x wg wu wd Z, ∀ y, p.2 y = ffnG i we x wg wu wd Z (p.1.emb y) := by
    unfold ffnPieces
    simp only [List.forall_mem_cons]
    exact ⟨ffnAt_apply i we x wg wu wd Z 7 _ _, ffnAt_apply i we x wg wu wd Z 6 _ _, ffnAt_apply i we x wg wu wd Z 5 _ _,
      ffnAt_apply i we x wg wu wd Z 4 _ _, ffnAt_apply i we x wg wu wd Z 3 _ _, ffnAt_apply i we x wg wu wd Z 2 _ _,
      ffnAt_apply i we x wg wu wd Z 1 _ _, ffnAt_apply i we x wg wu wd Z 0 _ _, fun p hp => absurd hp List.not_mem_nil⟩
  unfold ffnOut
  exact View.canon_apply_of_pieces _ _ key j (ffnPieces_cover i we x wg wu wd Z j)

end

end Cert.KernelIdeal.Body
end
-- ==== Proof.Ideal.Experts.lean ====
/-
  The mixture of experts as plain sums over the extended reals: one expert's gated hidden layer, its down projection, and
  the weighted sum over experts, taken whole and taken block by block.
-/
module

public import Idealize.ShloMosaic.PureOps.Ideal
public import Idealize.ShloMosaic.Lib.Pointwise

@[expose] public section

noncomputable section

namespace Cert.MoE

open Idealize.ShloMosaic

/-- One projection of a token: the row against a column. -/
def proj (X : Fin 2048 → Fin 1024 → EReal) (W : Fin 1024 → Fin 2752 → EReal) (n : Fin 2048) (h : Fin 2752) : EReal :=
  ∑ k : Fin 1024, X n k * W k h

/-- A gated hidden entry: `silu (x·wg) * (x·wu)`. -/
def hid (X : Fin 2048 → Fin 1024 → EReal) (Wg Wu : Fin 1024 → Fin 2752 → EReal) (n : Fin 2048) (h : Fin 2752) : EReal :=
  (proj X Wg n h * Ideal.logistic (proj X Wg n h)) * proj X Wu n h

section
variable (X : Fin 2048 → Fin 1024 → EReal) (Wg Wu : Fin 8 → Fin 1024 → Fin 2752 → EReal) (Wd : Fin 8 → Fin 2752 → Fin 1024 → EReal)
  (w : Fin 2048 → Fin 8 → EReal)

/-- One expert's output for a token. -/
def expert (e : Fin 8) (n : Fin 2048) (c : Fin 1024) : EReal := ∑ h : Fin 2752, hid X (Wg e) (Wu e) n h * Wd e h c

/-- The mixture: the experts' outputs by their weights. -/
def mixture (n : Fin 2048) (c : Fin 1024) : EReal := ∑ e : Fin 8, expert X Wg Wu Wd e n c * w n e

/-- One hidden lane's share of an expert's output, zero beyond the hidden width. -/
def lane (e : Fin 8) (n : Fin 2048) (c : Fin 1024) (h : ℕ) : EReal :=
  if hh : h < 2752 then hid X (Wg e) (Wu e) n ⟨h, hh⟩ * Wd e ⟨h, hh⟩ c else 0

/-- The share of one block of 1408 lanes. -/
def blockShare (e : Fin 8) (n : Fin 2048) (c : Fin 1024) (b : ℕ) : EReal := ∑ h : Fin 1408, lane X Wg Wu Wd e n c (1408 * b + h.val)

/-- The expert of grid point `t`. -/
abbrev expertAt (t : ℕ) : Fin 8 := ⟨t / 2 % 8, Nat.mod_lt _ (by decide)⟩

/-- The running sum after `t` grid points, two blocks of lanes per expert. -/
def running (n : Fin 2048) (c : Fin 1024) : ℕ → EReal
  | 0 => 0
  | t + 1 => running n c t + blockShare X Wg Wu Wd (expertAt t) n c (t % 2) * w n (expertAt t)

/-- An expert's two blocks of lanes make its output. -/
theorem blocks_expert (e : Fin 8) (n : Fin 2048) (c : Fin 1024) :
    blockShare X Wg Wu Wd e n c 0 + blockShare X Wg Wu Wd e n c 1 = expert X Wg Wu Wd e n c := by
  have h1 : blockShare X Wg Wu Wd e n c 0 + blockShare X Wg Wu Wd e n c 1
      = ∑ h ∈ Finset.range 2816, lane X Wg Wu Wd e n c h := by
    rw [show 2816 = 1408 + 1408 from rfl, Finset.sum_range_add]
    unfold blockShare
    rw [Finset.sum_range, Finset.sum_range]
    simp only [Nat.mul_zero, Nat.zero_add, Nat.mul_one]
  have h2 : ∑ h ∈ Finset.range 2816, lane X Wg Wu Wd e n c h = ∑ h ∈ Finset.range 2752, lane X Wg Wu Wd e n c h := by
    refine (Finset.sum_subset (fun a ha => ?_) fun a _ ha => ?_).symm
    · rw [Finset.mem_range] at ha ⊢; omega
    · rw [Finset.mem_range] at ha; unfold lane; rw [dif_neg ha]
  rw [h1, h2, Finset.sum_range]
  unfold expert
  refine Finset.sum_congr rfl fun h _ => ?_
  unfold lane
  rw [dif_pos h.isLt]

/-- Where the weights are nonnegative numbers, the running sum of all sixteen points is the mixture. -/
theorem running_eq (hw : ∀ n e, 0 ≤ w n e) (hw' : ∀ n e, w n e ≠ ⊤) (n : Fin 2048) (c : Fin 1024) :
    running X Wg Wu Wd w n c 16 = mixture X Wg Wu Wd w n c := by
  have step : ∀ e : ℕ, running X Wg Wu Wd w n c (2 * e + 2)
      = running X Wg Wu Wd w n c (2 * e) + expert X Wg Wu Wd (expertAt (2 * e)) n c * w n (expertAt (2 * e)) := by
    intro e
    have e1 : expertAt (2 * e + 1) = expertAt (2 * e) := Fin.ext (by show (2 * e + 1) / 2 % 8 = 2 * e / 2 % 8; omega)
    show running X Wg Wu Wd w n c (2 * e) + blockShare X Wg Wu Wd (expertAt (2 * e)) n c (2 * e % 2) * w n (expertAt (2 * e))
      + blockShare X Wg Wu Wd (expertAt (2 * e + 1)) n c ((2 * e + 1) % 2) * w n (expertAt (2 * e + 1)) = _
    rw [e1, show 2 * e % 2 = 0 by omega, show (2 * e + 1) % 2 = 1 by omega, ← blocks_expert,
      EReal.right_distrib_of_nonneg_of_ne_top (hw _ _) (hw' _ _), add_assoc]
  unfold mixture
  rw [show (16 : ℕ) = 2 * 7 + 2 from rfl, step, show 2 * 7 = 2 * 6 + 2 from rfl, step, show 2 * 6 = 2 * 5 + 2 from rfl, step,
    show 2 * 5 = 2 * 4 + 2 from rfl, step, show 2 * 4 = 2 * 3 + 2 from rfl, step, show 2 * 3 = 2 * 2 + 2 from rfl, step,
    show 2 * 2 = 2 * 1 + 2 from rfl, step, show 2 * 1 = 2 * 0 + 2 from rfl, step]
  simp only [Fin.sum_univ_eight]
  show (0 : EReal) + _ + _ + _ + _ + _ + _ + _ + _ = _
  rw [zero_add]
  rfl

end

end Cert.MoE
end
-- ==== Proof.Ideal.FfnFinal.lean ====
/-
  What the feed-forward call leaves in its result: the running sum over the sixteen grid points.
-/
module

public import proofs.«01_k».proof.Proof.Ideal.Blocks
public import proofs.«01_k».proof.Proof.Ideal.FfnValue
public import proofs.«01_k».proof.Proof.Ideal.Experts

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat RDat Window)
open Cert.MoE

variable (m : (ℓ : Loc nD τ sig) → Buf (Elt Ideal) ℓ) (c : Dev nD)

/-! ## The arrays as functions of their coordinates -/

/-- The tokens by row. -/
def tok (n : Fin 2048) (k : Fin 1024) : EReal := (xIn m c : S2048x1024.Idx → EReal) (ix2 n k)
/-- The gate, up and down matrices by expert. -/
def gateW (e : Fin 8) (k : Fin 1024) (h : Fin 2752) : EReal := (m ((c : Thread nD τ).loc main_arg2) : S8x1024x2752.Idx → EReal) (ix3 e k h)
def upW (e : Fin 8) (k : Fin 1024) (h : Fin 2752) : EReal := (m ((c : Thread nD τ).loc main_arg3) : S8x1024x2752.Idx → EReal) (ix3 e k h)
def downW (e : Fin 8) (h : Fin 2752) (k : Fin 1024) : EReal := (m ((c : Thread nD τ).loc main_arg4) : S8x2752x1024.Idx → EReal) (ix3 e h k)
/-- The router's weights by token and expert. -/
def wts (n : Fin 2048) (e : Fin 8) : EReal := (fin0 m c 2 : S2048x8.Idx → EReal) (ix2 n e)

/-- The running sum of this launch. -/
abbrev runSum (n : Fin 2048) (k : Fin 1024) (t : ℕ) : EReal := running (tok m c) (gateW m c) (upW m c) (downW m c) (wts m c) n k t

/-- A grid point's value read through given functions: where the operand blocks hold the rows, the weights of expert
    `e`'s `b`-th hidden block and the router's weights, the point adds that block's share times the weight. -/
theorem ffnG_of (X : Fin 2048 → Fin 1024 → EReal) (Wg Wu : Fin 8 → Fin 1024 → Fin 2752 → EReal) (Wd : Fin 8 → Fin 2752 → Fin 1024 → EReal)
    (w : Fin 2048 → Fin 8 → EReal) (i : grid1.Coords) (e : Fin 8) (he : e.val = (i 0).val)
    (we : S2048x8.Idx → Elt Ideal .f32) (x : S2048x1024.Idx → Elt Ideal .bf16)
    (wg wu : S1x1024x1408.Idx → Elt Ideal .f32) (wd : S1x1408x1024.Idx → Elt Ideal .f32) (Z : S2048x1024.Idx → Elt Ideal .f32)
    (hwe : ∀ n e, we (ix2 n e) = w n e) (hx : ∀ n q, x (ix2 n q) = X n q)
    (hg : ∀ q (h : Fin 1408) (hh : 1408 * (i 1).val + h.val < 2752), wg (ix3 (0 : Fin 1) q h) = Wg e q ⟨1408 * (i 1).val + h.val, hh⟩)
    (hu : ∀ q (h : Fin 1408) (hh : 1408 * (i 1).val + h.val < 2752), wu (ix3 (0 : Fin 1) q h) = Wu e q ⟨1408 * (i 1).val + h.val, hh⟩)
    (hd : ∀ q (h : Fin 1408) (hh : 1408 * (i 1).val + h.val < 2752), wd (ix3 (0 : Fin 1) h q) = Wd e ⟨1408 * (i 1).val + h.val, hh⟩ q)
    (n : Fin 2048) (k : Fin 1024) :
    ffnG i we x wg wu wd Z (ix2 n k) = Z (ix2 n k) + blockShare X Wg Wu Wd e n k (i 1).val * w n e := by
  have hl : ffnG i we x wg wu wd Z (ix2 n k) = Z (ix2 n k) + (∑ h : Fin 1408, if inH (i 1).val h.val then
      ((∑ q : Fin 1024, x (ix2 n q) * wg (ix3 (0 : Fin 1) q h)) * Ideal.logistic (∑ q : Fin 1024, x (ix2 n q) * wg (ix3 (0 : Fin 1) q h))
        * ∑ q : Fin 1024, x (ix2 n q) * wu (ix3 (0 : Fin 1) q h)) * wd (ix3 (0 : Fin 1) h k) else (0 : EReal))
      * we (ix2 n (⟨(i 0).val, gp0_lt i⟩ : Fin 8)) := rfl
  have he' : (⟨(i 0).val, gp0_lt i⟩ : Fin 8) = e := Fin.ext he.symm
  rw [hl, he', hwe]
  refine Ideal.add_congr rfl (Ideal.mul_congr ?_ rfl)
  unfold blockShare
  refine Finset.sum_congr rfl fun h _ => ?_
  unfold lane
  by_cases hh : 1408 * (i 1).val + h.val < 2752
  · rw [dif_pos hh, if_pos (show inH (i 1).val h.val from hh)]
    simp only [hx, hg _ h hh, hu _ h hh, hd _ h hh]
    rfl
  · rw [dif_neg hh, if_neg (show ¬ inH (i 1).val h.val from hh)]

/-- One grid point advances the running sum. -/
theorem ffnG_step (t : Fin grid1.N) (d0 d1 d2 d3 d4) (Z : S2048x1024.Idx → Elt Ideal .f32)
    (hZ : ∀ n k, Z (ix2 n k) = runSum m c n k t.val) (n : Fin 2048) (k : Fin 1024) :
    ffnG (grid1.coords t) (blk1 m c 0 t d0) (blk1 m c 1 t d1) (blk1 m c 2 t d2) (blk1 m c 3 t d3) (blk1 m c 4 t d4) Z (ix2 n k)
      = runSum m c n k (t.val + 1) := by
  have ht : t.val < 16 := t.isLt
  have he' : (⟨t.val / 2, by omega⟩ : Fin 8) = expertAt t.val := Fin.ext (by show t.val / 2 = t.val / 2 % 8; omega)
  have h1 := coord1 t
  refine (ffnG_of (tok m c) (gateW m c) (upW m c) (downW m c) (wts m c) (grid1.coords t) (expertAt t.val)
    (by rw [coord0]; show t.val / 2 % 8 = _; omega) _ _ _ _ _ Z ?_ ?_ ?_ ?_ ?_ n k).trans ?_
  · intro n e; rw [blk1_0, W3_v1_0]; rfl
  · intro n q; rw [blk1_1, W3_v2]; rfl
  · rw [h1]; intro q h hh
    rw [blk1_2 m c t d2 q h hh, he', W3_of m c main_arg2 (by decide) (by decide) (by decide)]; rfl
  · rw [h1]; intro q h hh
    rw [blk1_3 m c t d3 q h hh, he', W3_of m c main_arg3 (by decide) (by decide) (by decide)]; rfl
  · rw [h1]; intro q h hh
    rw [blk1_4 m c t d4 h q hh, he', W3_of m c main_arg4 (by decide) (by decide) (by decide)]; rfl
  · rw [hZ, h1]; rfl

theorem isFirst_iff : ∀ t : Fin grid1.N, isFirst (grid1.coords t) ↔ t.val = 0 := by decide +kernel

/-- What a grid point leaves in the accumulator. -/
theorem leaves5 : ∀ (t : ℕ) (ht : t < 16) (X : S2048x1024.Idx → Elt Ideal .f32),
    (rdat1 m c).Leaves 5 (⟨t, ht⟩ : Fin grid1.N) X → ∀ n k, X (ix2 n k) = runSum m c n k (t + 1)
  | 0, ht, X, ⟨Y, _, d0, d1, d2, d3, d4, hX⟩ => fun n k => by
    rw [hX]
    refine (ffnOut_apply _ _ _ _ _ _ _ _).trans (ffnG_step m c ⟨0, ht⟩ d0 d1 d2 d3 d4 _ (fun n k => ?_) n k)
    unfold ffnStart
    rw [if_pos ((isFirst_iff ⟨0, ht⟩).mpr rfl)]
    show k1_pay3 (F := Ideal) (ix2 n k) = 0
    pointwise [k1_pay3]
  | t + 1, ht, X, ⟨Y, hY, d0, d1, d2, d3, d4, hX⟩ => fun n k => by
    have hf : (cfg1.win 5).fetch (⟨t + 1, ht⟩ : Fin grid1.N) = false := rfl
    have hl := ((rdat1 m c).finds_of_pos hf (Nat.succ_ne_zero t) Y).mp hY
    have hl' := hl.resolve_left fun h => by
      have := (flush1_5 _).mp h
      change t % 16 = 15 at this
      omega
    rw [hX]
    refine (ffnOut_apply _ _ _ _ _ _ _ _).trans (ffnG_step m c ⟨t + 1, ht⟩ d0 d1 d2 d3 d4 _ (fun n k => ?_) n k)
    unfold ffnStart
    rw [if_neg (fun h => Nat.succ_ne_zero t ((isFirst_iff ⟨t + 1, ht⟩).mp h))]
    exact leaves5 t (by omega) Y hl' n k

/-- The last grid point. -/
abbrev tEnd : Fin grid1.N := ⟨15, by decide⟩

theorem wholeEnd : (cfg1.win 5).WholeAt tEnd := by decide +kernel

/-- What the call leaves in its result array. -/
theorem arr5 (f : Buf (Elt Ideal) ((c : Thread nD τ).loc main_v3)) (hf : (rdat1 m c).ArrAt 5 cfg1.N f) (n : Fin 2048) (k : Fin 1024) :
    (f : S2048x1024.Idx → EReal) (ix2 n k) = runSum m c n k 16 := by
  have h15 : (cfg1.win 5).flush tEnd = true := (flush1_5 _).mpr rfl
  have hs : (rdat1 m c).ArrStep 5 tEnd ((rdat1 m c).ArrAt 5 15) f := by
    have : (rdat1 m c).ArrAt 5 (15 + 1) f := hf
    unfold RDat.ArrAt at this
    dsimp only at this
    rw [dif_pos (by decide), if_pos h15] at this
    exact this
  obtain ⟨G₀, X, _, hL, rfl⟩ := hs
  rw [← leaves5 m c 15 (by decide) X hL n k]
  let y : ((cfg1.win 5).xblock (grid1.coords tEnd)).Idx := fun a => ⟨(ix2 n k : S2048x1024.Idx) a, wholeEnd.lt_xsize (ix2 n k : S2048x1024.Idx) a⟩
  have hy : ((cfg1.win 5).blk tEnd).view.emb y = (ix2 n k : S2048x1024.Idx) := by
    funext a
    apply Fin.ext
    exact Window.rect_emb_val_of_index_zero _ _ _ (wholeEnd.2.2 a).1 y
  have hw := View.write_emb_of_mem (v := ((cfg1.win 5).blk tEnd).view) (Val := Elt Ideal) G₀
    ((cfg1.win 5).cut (grid1.coords tEnd) X) (Finset.mem_univ y)
  rw [hy] at hw
  exact hw

end Cert.KernelIdeal.Body
end
-- ==== Proof.Ideal.RouterValue.lean ====
/-
  What the router's body leaves in its three result blocks, read at an index: the weights, the load-balance loss and the
  mean square of the logits, in the words of `Cert.MoE`.
-/
module

public import proofs.«01_k».proof.Proof.Ideal.FfnValue
public import proofs.«01_k».proof.Proof.Ideal.Words

@[expose] public section

set_option maxRecDepth 16384

noncomputable section

namespace Cert.KernelIdeal.Body

open Cert.KernelIdeal Cert.KernelIdeal.Gen
open Idealize.ShloMosaic Idealize.ShloMosaic.TcCoe Idealize.SL.Sem
open Cert.MoE

/-! ## The choices -/

section
variable (x : Vec Ideal S2048x1024 .f32) (wr : Vec Ideal S1024x8 .f32)

/-- The logits of the router's two operand blocks. -/
abbrev lgt : Fin 2048 → Fin 8 → EReal := logits (fun n k => x (ix2 n k)) (fun k e => wr (ix2 k e))
abbrev pick1 (n : Fin 2048) : Fin 8 := first (gates (lgt x wr n))
abbrev pick2 (n : Fin 2048) : Fin 8 := second (gates (lgt x wr n))

theorem pay2_at (n : Fin 2048) (e : Fin 8) : k0_pay2 (F := Ideal) x wr (ix2 n e) = lgt x wr n e := by
  pointwise [k0_pay2]
  try rfl

theorem pay4_at (n : Fin 2048) (e : Fin 8) : k0_pay4 (F := Ideal) x wr (ix2 n e) = gates (lgt x wr n) e := by
  pointwise [k0_pay4]
  simp only [pay2_at, fold_max]
  rfl

theorem pay5_at (n : Fin 2048) (z : Fin 1) : k0_pay5 (F := Ideal) x wr (ix2 n z) = Finset.univ.sup (gates (lgt x wr n)) := by
  pointwise [k0_pay5]
  simp only [pay4_at, fold_max]

theorem pay6_at (n : Fin 2048) (z : Fin 1) : k0_pay6 (F := Ideal) x wr (ix2 n z) = BitVec.ofNat 32 (pick1 x wr n).val := by
  pointwise [k0_pay6]
  simp only [pay4_at]
  exact least_max _ _ (pay5_at x wr n 0)

theorem pay7_at (n : Fin 2048) (e : Fin 8) : k0_pay7 (F := Ideal) x wr (ix2 n e) = if pick1 x wr n = e then (1 : EReal) else 0 := by
  pointwise [k0_pay7]
  rw [pay6_at, eq_small _ _ (by omega) (by omega), bit_number]
  exact if_congr (by rw [Fin.ext_iff]; exact eq_comm) rfl rfl

theorem pay8_at (n : Fin 2048) (e : Fin 8) : k0_pay8 (F := Ideal) x wr (ix2 n e) = rest (gates (lgt x wr n)) e := by
  pointwise [k0_pay8]
  rw [pay6_at, eq_small _ _ (by omega) (by omega), pay4_at, lit_bot]
  unfold rest
  by_cases h : e = pick1 x wr n
  · rw [if_pos (by rw [h]), if_pos h]; rfl
  · rw [if_neg (fun h' => h (Fin.ext h')), if_neg h]; rfl

theorem pay9_at (n : Fin 2048) (z : Fin 1) : k0_pay9 (F := Ideal) x wr (ix2 n z) = Finset.univ.sup (rest (gates (lgt x wr n))) := by
  pointwise [k0_pay9]
  simp only [pay8_at, fold_max]

theorem oh2_at (n : Fin 2048) (e : Fin 8) : oh2 (F := Ideal) x wr (ix2 n e) = if pick2 x wr n = e then (1 : EReal) else 0 := by
  pointwise [oh2, k0_pay11, k0_pay10, laneIx]
  simp only [pay8_at]
  rw [least_max _ _ (pay9_at x wr n 0), eq_small _ _ (by omega) (by omega), bit_number]
  exact if_congr (by rw [Fin.ext_iff]; exact eq_comm) rfl rfl

end

/-! ## The counts -/

theorem pay12_at (r s : Fin 256) : k0_pay12 (F := Ideal) (ix2 r s) = if s.val ≤ r.val then (1 : EReal) else 0 := by
  pointwise [k0_pay12]
  rw [sge_small _ _ (by omega) (by omega), bit_number]

/-- A sum over a chunk cut off after position `r`. -/
theorem sum_upto (f : ℕ → ℕ) (r : ℕ) (hr : r < 256) :
    (∑ s : Fin 256, if s.val ≤ r then f s.val else 0) = ∑ i ∈ Finset.range (r + 1), f i := by
  rw [Fin.sum_univ_eq_sum_range (fun s => if s ≤ r then f s else 0) 256, ← Finset.sum_filter]
  congr 1
  ext s
  rw [Finset.mem_filter, Finset.mem_range, Finset.mem_range]
  omega

section
variable (a : Fin 2048 → Fin 8) (o : Vec Ideal S2048x8 .f32) (ho : ∀ n e, o (ix2 n e) = if a n = e then (1 : EReal) else 0)
include ho

theorem o_hit (k : ℕ) (e : Fin 8) (i : ℕ) (h : k + i < 2048) : o (ix2 (⟨k + i, h⟩ : Fin 2048) e) = ((hit a e (k + i) : ℕ) : EReal) := by
  rw [ho]; unfold hit; rw [dif_pos h]; split_ifs <;> simp

/-- After `k` chunks the column counts are the numbers of hits in their rows. -/
theorem accAt_at (e : Fin 8) (z : Fin 1) : ∀ k, k ≤ 8 → accAt (F := Ideal) o k (ix2 z e) = ((tally a e (256 * k) : ℕ) : EReal)
  | 0, _ => by
    unfold accAt
    pointwise
    simp [tally]
  | k + 1, hk => by
    have hk' : k < 8 := hk
    have ih := accAt_at e z k (by omega)
    unfold accAt
    rw [dif_pos hk']
    generalize accAt (F := Ideal) o k = acc at ih
    pointwise [accStep]
    rw [ih, show 256 * (k + 1) = 256 * k + 256 by ring, tally_add, Nat.cast_add, Finset.sum_range, Nat.cast_sum]
    refine Ideal.add_congr rfl (Finset.sum_congr rfl fun i _ => o_hit a o ho (256 * k) e i.val _)

/-- The running count of a row of chunk `k`. -/
theorem cumChunk_at (k : ℕ) (hk : k < 8) (acc : Vec Ideal S1x8 .f32) (e : Fin 8) (hacc : ∀ z : Fin 1, acc (ix2 z e) = ((tally a e (256 * k) : ℕ) : EReal))
    (r : Fin 256) : cumChunk (F := Ideal) (offR k) (slicesR k hk) o acc (ix2 r e) = ((tally a e (256 * k + r.val + 1) : ℕ) : EReal) := by
  pointwise [cumChunk]
  rw [hacc, show 256 * k + r.val + 1 = 256 * k + (r.val + 1) by ring, tally_add, Nat.cast_add, add_comm]
  refine Ideal.add_congr rfl ?_
  have : ∀ s : Fin 256, k0_pay12 (F := Ideal) (ix2 r s) * o (ix2 (⟨256 * k + s.val, by omega⟩ : Fin 2048) e)
      = ((if s.val ≤ r.val then hit a e (256 * k + s.val) else 0 : ℕ) : EReal) := fun s => by
    rw [pay12_at, o_hit a o ho]
    split_ifs <;> simp
  refine (Finset.sum_congr rfl fun s _ => this s).trans ?_
  rw [← Nat.cast_sum]
  exact congrArg (fun q : ℕ => (q : EReal)) (sum_upto (fun s => hit a e (256 * k + s)) r.val r.isLt)

omit ho in
/-- The choice of a kept value, as the comparisons state it. -/
theorem select_kept (p : Prop) [Decidable p] (t : ℕ) (v c z : EReal) (hc : c = 640) (hz : z = 0) :
    Scalar.select (IntOp.andi (BitVec.ofBool (decide ((0 : EReal) < if p then 1 else 0))) (BitVec.ofBool (decide ((t : EReal) ≤ c)))) v z
      = if p ∧ t ≤ 640 then v else 0 := by
  subst hc hz
  have h640 : ((t : EReal) ≤ 640) ↔ t ≤ 640 := by exact_mod_cast EReal.natCast_le_iff (m := t) (n := 640)
  by_cases h1 : p <;> by_cases h2 : t ≤ 640
  · rw [if_pos h1, if_pos ⟨h1, h2⟩, decide_eq_true (h640.mpr h2), decide_eq_true (zero_lt_one' EReal)]; rfl
  · rw [if_pos h1, if_neg (fun h => h2 h.2), decide_eq_false (fun h => h2 (h640.mp h)), decide_eq_true (zero_lt_one' EReal)]; rfl
  · rw [if_neg h1, if_neg (fun h => h1 h.1), decide_eq_true (h640.mpr h2), decide_eq_false (lt_irrefl (0 : EReal))]; rfl
  · rw [if_neg h1, if_neg (fun h => h1 h.1), decide_eq_false (fun h => h2 (h640.mp h)), decide_eq_false (lt_irrefl (0 : EReal))]; rfl

/-- A chunk of kept values. -/
theorem pickChunk_at (k : ℕ) (hk : k < 8) (v : Vec Ideal S2048x1 .f32) (w : Fin 2048 → EReal) (hv : ∀ n z, v (ix2 n z) = w n) (r : Fin 256) (e : Fin 8) :
    pickChunk (F := Ideal) (offR k) (slicesR k hk) (slicesC k hk) o (accAt (F := Ideal) o k) v (ix2 r e)
      = kept a w (⟨256 * k + r.val, by omega⟩ : Fin 2048) e := by
  have hacc : ∀ z : Fin 1, accAt (F := Ideal) o k (ix2 z e) = ((tally a e (256 * k) : ℕ) : EReal) := fun z => accAt_at a o ho e z k hk.le
  generalize accAt (F := Ideal) o k = acc at hacc
  have hc := cumChunk_at a o ho k hk acc e hacc r
  pointwise [pickChunk, keepChunk]
  rw [hc, hv, ho]
  exact select_kept (a (⟨256 * k + r.val, by omega⟩ : Fin 2048) = e) (tally a e (256 * k + r.val + 1)) (w (⟨256 * k + r.val, by omega⟩ : Fin 2048)) _ _ lit_640 rfl

end

/-! ## The three results -/

section
variable (x : S2048x1024.Idx → Elt Ideal .f32) (wr : S1024x8.Idx → Elt Ideal .f32)

theorem weAt_at (k : ℕ) (hk : k < 8) (r : Fin 256) (e : Fin 8) :
    weAt (F := Ideal) x wr k hk (ix2 r e) = weight (lgt x wr) (⟨256 * k + r.val, by omega⟩ : Fin 2048) e := by
  unfold weAt weChunk weight
  exact Ideal.add_congr
    (pickChunk_at (pick1 x wr) (k0_pay7 x wr) (pay7_at x wr) k hk (k0_pay5 x wr) _ (fun n z => pay5_at x wr n z) r e)
    (pickChunk_at (pick2 x wr) (oh2 x wr) (oh2_at x wr) k hk (k0_pay9 x wr) _ (fun n z => pay9_at x wr n z) r e)

/-- The array of weights. -/
def weG (j : S2048x8.Idx) : Elt Ideal .f32 := weight (lgt x wr) (j 0) (j 1)

/-- A chunk of the weights is the rows of the whole array of weights. -/
theorem weAt_piece (k : ℕ) (hk : k < 8) (inb : ∀ a : Fin 2, (![256 * k, 0] : Fin 2 → ℕ) a + S256x8.size a ≤ S2048x8.size a) (y : S256x8.Idx) :
    weAt (F := Ideal) x wr k hk y
      = weG x wr ((Rect.unit (s := S2048x8) ![256 * k, 0] S256x8.size inb).emb y) := by
  have e : (Rect.unit (s := S2048x8) ![256 * k, 0] S256x8.size inb).emb y
      = (ix2 (⟨256 * k + (y 0).val, by have h : (y 0).val < 256 := (y 0).isLt; omega⟩ : Fin 2048) (y 1 : Fin 8) : S2048x8.Idx) := by
    funext a
    refine Fin.ext ?_
    match a with
    | ⟨0, _⟩ => show 256 * k + 1 * (y 0).val = 256 * k + (y 0).val; omega
    | ⟨1, _⟩ => show 0 + 1 * (y 1).val = (y 1).val; omega
  rw [e]
  conv_lhs => rw [eq_ix2 y]
  exact weAt_at x wr k hk (y 0) (y 1)

/-- The router's weights. -/
theorem routerWe_apply (j : S2048x8.Idx) : routerWe (F := Ideal) x wr j = weG x wr j := by
  have key : ∀ p ∈ wePieces (F := Ideal) x wr, ∀ y, p.2 y = weG x wr (p.1.emb y) := by
    unfold wePieces
    simp only [List.forall_mem_cons]
    exact ⟨weAt_piece x wr 7 _ _, weAt_piece x wr 6 _ _, weAt_piece x wr 5 _ _, weAt_piece x wr 4 _ _,
      weAt_piece x wr 3 _ _, weAt_piece x wr 2 _ _, weAt_piece x wr 1 _ _, weAt_piece x wr 0 _ _, fun p hp => absurd hp List.not_mem_nil⟩
  unfold routerWe
  exact View.canon_apply_of_pieces _ _ key j (wePieces_cover x wr j)

theorem tally_last (a : Fin 2048 → Fin 8) (e : Fin 8) :
    ((tally a e 2048 : ℕ) : EReal) = (tally a e (256 * 7) : ℕ) + ∑ i : Fin 256, ((hit a e (256 * 7 + i.val) : ℕ) : EReal) := by
  rw [show (2048 : ℕ) = 256 * 7 + 256 from rfl, tally_add, Nat.cast_add, Finset.sum_range, Nat.cast_sum]

/-- The load-balance loss. -/
theorem routerAux_apply (y z : Fin 1) : routerAux (F := Ideal) x wr (ix2 y z) = balance (lgt x wr) := by
  have h4 := pay4_at x wr
  have h7 := pay7_at x wr
  have hacc : ∀ z e, accAt (F := Ideal) (k0_pay7 (F := Ideal) x wr) 7 (ix2 z e) = ((tally (pick1 x wr) e (256 * 7) : ℕ) : EReal) :=
    fun z e => accAt_at (pick1 x wr) _ h7 e z 7 (by decide)
  unfold routerAux
  generalize accAt (F := Ideal) (k0_pay7 (F := Ideal) x wr) 7 = acc at hacc
  have hit7 : ∀ (e : Fin 8) (i : Fin 256), k0_pay7 (F := Ideal) x wr (ix2 (⟨1792 + i.val, by omega⟩ : Fin 2048) e) = ((hit (pick1 x wr) e (256 * 7 + i.val) : ℕ) : EReal) :=
    fun e i => o_hit (pick1 x wr) _ h7 1792 e i.val _
  generalize k0_pay7 (F := Ideal) x wr = o at hit7
  generalize k0_pay4 (F := Ideal) x wr = g at h4
  pointwise [k0_pay1, k0_pay60, k0_pay58]
  simp only [hacc, h4, lit_8, lit_2048, Finset.univ_unique, Finset.sum_singleton]
  unfold balance
  refine Ideal.mul_congr rfl (Finset.sum_congr rfl fun e _ => Ideal.mul_congr rfl ?_)
  refine congrArg (Ideal.div · 2048) ?_
  refine Eq.trans ?_ (tally_last (pick1 x wr) e).symm
  exact Ideal.add_congr rfl (Finset.sum_congr rfl fun i _ => hit7 e i)

/-- The mean square of the logits. -/
theorem routerZ_apply (y z : Fin 1) : routerZ (F := Ideal) x wr (ix2 y z) = meanSquare (lgt x wr) := by
  unfold routerZ
  pointwise [k0_pay3]
  simp only [pay2_at, lit_16384]
  rfl

end

end Cert.KernelIdeal.Body
end
-- ==== Proof.Ideal.Answer.lean ====
/-
  The three results as arrays of numbers, from the five arguments: the experts' mixture, the load-balance loss and the
  mean square of the logits.
-/
module

public import proofs.«01_k».proof.Proof.Ideal.Experts
public import proofs.«01_k».proof.Proof.Ideal.Words

@[expose] public section

noncomputable section

namespace Cert.MoE

open Idealize.ShloMosaic

abbrev Tokens : Shape := ⟨3, ![1, 2048, 1024]⟩
abbrev Router : Shape := ⟨2, ![1024, 8]⟩
abbrev WidthIn : Shape := ⟨3, ![8, 1024, 2752]⟩
abbrev WidthOut : Shape := ⟨3, ![8, 2752, 1024]⟩
abbrev Single : Shape := ⟨0, ![]⟩

variable (x : Tokens.Idx → EReal) (r : Router.Idx → EReal) (g u : WidthIn.Idx → EReal) (d : WidthOut.Idx → EReal)

/-- The logits of the tokens. -/
abbrev rowLogits : Fin 2048 → Fin 8 → EReal := logits (fun n k => x (ix3 (0 : Fin 1) n k)) (fun k e => r (ix2 k e))

/-- The layer's output. -/
def answer : Tokens.Idx → EReal := fun j =>
  mixture (fun n k => x (ix3 (0 : Fin 1) n k)) (fun e q h => g (ix3 e q h)) (fun e q h => u (ix3 e q h)) (fun e h q => d (ix3 e h q))
    (weight (rowLogits x r)) (j 1) (j 2)

/-- The load-balance loss. -/
def answerBalance : Single.Idx → EReal := fun _ => balance (rowLogits x r)

/-- The mean square of the logits. -/
def answerSquare : Single.Idx → EReal := fun _ => meanSquare (rowLogits x r)

/-- A number whose absolute value is below the word of plus infinity is finite. -/
theorem finite_of_abs (a : EReal) (h : Ideal.cmp .olt (max a (-a)) (Ideal.ofBits .f32 0x7F800000#32) = 1#1) : a ≠ ⊥ ∧ a ≠ ⊤ := by
  rw [lit_top] at h
  have h1 : max a (-a) < ⊤ := by
    by_contra hn
    have : Ideal.cmp .olt (max a (-a)) ⊤ = 0#1 := by
      show BitVec.ofBool (decide (max a (-a) < ⊤)) = 0#1
      rw [decide_eq_false hn]; rfl
    rw [this] at h; exact absurd h (by decide)
  constructor
  · rintro rfl; exact absurd h1 (by simp)
  · rintro rfl; exact absurd h1 (by simp)

end Cert.MoE
end
-- ==== Proof.Ideal.KernelResult.lean ====
/-
  The kernel's three results are the answer, where the logits are finite.
-/
module

public import proofs.«01_k».proof.Proof.Ideal.FfnFinal
public import proofs.«01_k».proof.Proof.Ideal.RouterValue
public import proofs.«01_k».proof.Proof.Ideal.Answer

@[expose] public section

set_option maxRecDepth 16384

noncomputable section

namespace Cert.KernelIdeal.Body

open Cert.KernelIdeal Cert.KernelIdeal.Gen
open Idealize.ShloMosaic Idealize.ShloMosaic.TcCoe Idealize.SL.Sem
open Cert.MoE

/-- A stack of one matrix read as the matrix … -/
theorem unstack_at (x : Vec Ideal S1x2048x1024 .f32) (n : Fin 2048) (k : Fin 1024) :
    shapeCast S2048x1024 x shapeCasts_S1x2048x1024_S2048x1024 (ix2 n k) = x (ix3 (0 : Fin 1) n k) := by
  pointwise

/-- … and back. -/
theorem stack_at (f : Vec Ideal S2048x1024 .f32) (z : Fin 1) (n : Fin 2048) (k : Fin 1024) :
    shapeCast S1x2048x1024 f shapeCasts_S2048x1024_S1x2048x1024 (ix3 z n k) = f (ix2 n k) := by
  pointwise

/-- A single number read without axes. -/
theorem single_at (f : Vec Ideal S1x1 .f32) (q : EReal) (h : ∀ y z, f (ix2 y z) = q) (j : S_.Idx) :
    shapeCast S_ f shapeCasts_S1x1_S_ j = q := by
  show f _ = q
  exact (congrArg f (eq_ix2 (n0 := 1) (n1 := 1) _)).trans (h _ _)

variable (m : (ℓ : Loc nD τ sig) → Buf (Elt Ideal) ℓ) (c : Dev nD)

abbrev arg0 : Vec Ideal S1x2048x1024 .f32 := m ((c : Thread nD τ).loc main_arg0)
abbrev arg1 : Vec Ideal S1024x8 .f32 := m ((c : Thread nD τ).loc main_arg1)
abbrev arg2 : Vec Ideal S8x1024x2752 .f32 := m ((c : Thread nD τ).loc main_arg2)
abbrev arg3 : Vec Ideal S8x1024x2752 .f32 := m ((c : Thread nD τ).loc main_arg3)
abbrev arg4 : Vec Ideal S8x2752x1024 .f32 := m ((c : Thread nD τ).loc main_arg4)

/-- The rows the feed-forward call reads are the tokens. -/
theorem tok_eq : tok m c = fun n k => arg0 m c (ix3 (0 : Fin 1) n k) := by
  funext n k
  unfold tok
  rw [xIn_eq]
  exact unstack_at _ n k

/-- The router's logits are those of the tokens. -/
theorem lgt_eq : lgt (xIn m c) (wrIn m c) = rowLogits (arg0 m c) (arg1 m c) := by
  have h : (fun n k => (xIn m c : S2048x1024.Idx → EReal) (ix2 n k)) = fun n k => arg0 m c (ix3 (0 : Fin 1) n k) := tok_eq m c
  show logits (fun n k => (xIn m c : S2048x1024.Idx → EReal) (ix2 n k)) (fun k e => (wrIn m c : S1024x8.Idx → EReal) (ix2 k e)) = _
  rw [h, wrIn_eq]

/-- The weights the feed-forward call reads. -/
theorem wts_eq : wts m c = weight (rowLogits (arg0 m c) (arg1 m c)) := by
  funext n e
  unfold wts
  rw [fin0_2]
  refine (routerWe_apply _ _ _).trans ?_
  show weight (lgt (xIn m c) (wrIn m c)) n e = _
  rw [lgt_eq]

/-- The kernel's output at an index. -/
theorem out_at (hl : ∀ n e, rowLogits (arg0 m c) (arg1 m c) n e ≠ ⊥ ∧ rowLogits (arg0 m c) (arg1 m c) n e ≠ ⊤) (z : Fin 1) (n : Fin 2048) (k : Fin 1024) :
    runSum m c n k 16 = answer (arg0 m c) (arg1 m c) (arg2 m c) (arg3 m c) (arg4 m c) (ix3 z n k) := by
  have hw := weight_real _ hl
  refine (running_eq _ _ _ _ _ (by rw [wts_eq]; exact fun n e => (hw n e).1) (by rw [wts_eq]; exact fun n e => (hw n e).2) n k).trans ?_
  rw [tok_eq, wts_eq]
  rfl

/-- The kernel's output. -/
theorem out_eq (hl : ∀ n e, rowLogits (arg0 m c) (arg1 m c) n e ≠ ⊥ ∧ rowLogits (arg0 m c) (arg1 m c) n e ≠ ⊤)
    (f : Buf (Elt Ideal) ((c : Thread nD τ).loc main_v3)) (hf : (rdat1 m c).ArrAt 5 cfg1.N f) :
    W5 m c f main_v4 = answer (arg0 m c) (arg1 m c) (arg2 m c) (arg3 m c) (arg4 m c) := by
  rw [W5_v4]
  funext j
  rw [eq_ix3 j]
  exact (stack_at _ _ _ _).trans ((arr5 m c f hf _ _).trans (out_at m c hl _ _ _))

theorem balance_eq (f : Buf (Elt Ideal) ((c : Thread nD τ).loc main_v3)) : W5 m c f main_v5 = answerBalance (arg0 m c) (arg1 m c) := by
  rw [W5_v5, fin0_3]
  funext j
  exact single_at _ _ (fun y z => (routerAux_apply _ _ y z).trans (by rw [lgt_eq]; rfl)) j

theorem square_eq (f : Buf (Elt Ideal) ((c : Thread nD τ).loc main_v3)) : W5 m c f main_v6 = answerSquare (arg0 m c) (arg1 m c) := by
  rw [W5_v6, fin0_4]
  funext j
  exact single_at _ _ (fun y z => (routerZ_apply _ _ y z).trans (by rw [lgt_eq]; rfl)) j

end Cert.KernelIdeal.Body
end
-- ==== Proof.Ideal.RefExperts.lean ====
/-
  The reference's output read at an index: the sum over the eight experts of their outputs times the token's weight.
-/
module

public import proofs.«01_k».proof.Proof.Gen.ReferenceIdeal.Read
public import Idealize.ShloMosaic.Lib.Pointwise
public import proofs.«01_k».proof.Proof.Ideal.Experts
public import proofs.«01_k».proof.Proof.Ideal.Words

@[expose] public section

set_option maxRecDepth 16384

noncomputable section

namespace Cert.ReferenceIdeal.Body

open Cert.ReferenceIdeal Cert.ReferenceIdeal.Gen Cert.ReferenceIdeal.Read
open Idealize.ShloMosaic Idealize.ShloMosaic.TcCoe Idealize.SL.Sem
open Cert.MoE

theorem slicesG (k : ℕ) (hk : k < 8) : S8x1024x2752.Slices ![k, 0, 0] S1x1024x2752 :=
  ⟨rfl, fun a => by fin_cases a <;> simp [S8x1024x2752, S1x1024x2752] <;> omega⟩
theorem slicesD (k : ℕ) (hk : k < 8) : S8x2752x1024.Slices ![k, 0, 0] S1x2752x1024 :=
  ⟨rfl, fun a => by fin_cases a <;> simp [S8x2752x1024, S1x2752x1024] <;> omega⟩
theorem slicesW (k : ℕ) (hk : k < 8) : S2048x8.Slices ![0, k] S2048x1 :=
  ⟨rfl, fun a => by fin_cases a <;> simp [S2048x8, S2048x1] <;> omega⟩

section
variable {F : FTy → Type} [FloatOps F]

/-- A product with expert `k`'s slice of a stack of matrices. -/
def projOf (k : ℕ) (hk : k < 8) (x : FVec F S2048x1024 .f32) (w : FVec F S8x1024x2752 .f32) : FVec F S2048x2752 .f32 :=
  Host.dotGeneral dot_S2048x1024_S1024x2752_S2048x2752_1_0_0_1_n_n none x
    (shapeCast S1024x2752 (extractStridedSlice S1x1024x2752 ![k, 0, 0] w (slicesG k hk)) shapeCasts_S1x1024x2752_S1024x2752)

/-- The product of a number and its logistic, the latter as a quotient. -/
def siluOf (a : FVec F S2048x2752 .f32) : FVec F S2048x2752 .f32 :=
  mulf a (Host.divf (broadcastInDim S2048x2752 ![] bcast_S_S2048x2752 (constant S_ .f32 0x3F800000#32))
    (addf (broadcastInDim S2048x2752 ![] bcast_S_S2048x2752 (constant S_ .f32 0x3F800000#32)) (Host.exp (Host.negf a))))

/-- Expert `k`'s output times the tokens' weights for it. -/
def termOf (k : ℕ) (hk : k < 8) (x : FVec F S2048x1024 .f32) (g u : FVec F S8x1024x2752 .f32) (d : FVec F S8x2752x1024 .f32)
    (w : FVec F S2048x8 .f32) : FVec F S2048x1024 .f32 :=
  mulf (Host.dotGeneral dot_S2048x2752_S2752x1024_S2048x1024_1_0_0_1_n_n none (mulf (siluOf (projOf k hk x g)) (projOf k hk x u))
      (shapeCast S2752x1024 (extractStridedSlice S1x2752x1024 ![k, 0, 0] d (slicesD k hk)) shapeCasts_S1x2752x1024_S2752x1024))
    (broadcastInDim S2048x1024 ![0, 1] bcast_S2048x1_S2048x1024_0_1 (extractStridedSlice S2048x1 ![0, k] w (slicesW k hk)))

/-- The sum of the first experts' terms, from zeros. -/
def sumOf (x : FVec F S2048x1024 .f32) (g u : FVec F S8x1024x2752 .f32) (d : FVec F S8x2752x1024 .f32) (w : FVec F S2048x8 .f32) :
    ℕ → FVec F S2048x1024 .f32
  | 0 => broadcastInDim S2048x1024 ![] bcast_S_S2048x1024 (constant S_ .f32 0x00000000#32)
  | k + 1 => if h : k < 8 then addf (sumOf x g u d w k) (termOf k h x g u d w) else sumOf x g u d w k

theorem v188_eq (x0 : FVec F S1x2048x1024 .f32) (x1 : FVec F S1024x8 .f32) (x2 x3 : FVec F S8x1024x2752 .f32) (x4 : FVec F S8x2752x1024 .f32) :
    val_main_v188 (F := F) x0 x1 x2 x3 x4
      = shapeCast S1x2048x1024 (sumOf (val_main_v0 (F := F) x0) x2 x3 x4 (val_main_v66 (F := F) x0 x1) 8) shapeCasts_S2048x1024_S1x2048x1024 := rfl

end

theorem lit_1 : Ideal.ofBits .f32 0x3F800000#32 = (1 : EReal) := by simp [Ideal.ofBits, Ideal.ieee]; rw [← EReal.coe_mul]; norm_num

section
variable (x : Vec Ideal S2048x1024 .f32) (g u : Vec Ideal S8x1024x2752 .f32) (d : Vec Ideal S8x2752x1024 .f32) (w : Vec Ideal S2048x8 .f32)

theorem projOf_at (k : ℕ) (hk : k < 8) (w : Vec Ideal S8x1024x2752 .f32) (n : Fin 2048) (h : Fin 2752) :
    projOf (F := Ideal) k hk x w (ix2 n h) = proj (fun n k => x (ix2 n k)) (fun q h => w (ix3 (⟨k, hk⟩ : Fin 8) q h)) n h := by
  pointwise [projOf]
  rfl

theorem siluOf_at (a : Vec Ideal S2048x2752 .f32) (n : Fin 2048) (h : Fin 2752) :
    siluOf (F := Ideal) a (ix2 n h) = a (ix2 n h) * Ideal.logistic (a (ix2 n h)) := by
  pointwise [siluOf]
  rfl

theorem termOf_at (k : ℕ) (hk : k < 8) (n : Fin 2048) (c : Fin 1024) :
    termOf (F := Ideal) k hk x g u d w (ix2 n c)
      = expert (fun n k => x (ix2 n k)) (fun e q h => g (ix3 e q h)) (fun e q h => u (ix3 e q h)) (fun e h q => d (ix3 e h q)) ⟨k, hk⟩ n c
        * w (ix2 n (⟨k, hk⟩ : Fin 8)) := by
  have hg := projOf_at x k hk g
  have hu := projOf_at x k hk u
  unfold termOf
  generalize projOf (F := Ideal) k hk x g = a at hg
  generalize projOf (F := Ideal) k hk x u = b at hu
  have hs := siluOf_at a
  generalize siluOf (F := Ideal) a = s at hs
  pointwise
  simp only [hs, hg, hu]
  rfl

/-- The sum over all the experts. -/
theorem sumOf_at (n : Fin 2048) (c : Fin 1024) :
    sumOf (F := Ideal) x g u d w 8 (ix2 n c)
      = mixture (fun n k => x (ix2 n k)) (fun e q h => g (ix3 e q h)) (fun e q h => u (ix3 e q h)) (fun e h q => d (ix3 e h q)) (fun n e => w (ix2 n e)) n c := by
  have h : ∀ k, k ≤ 8 → sumOf (F := Ideal) x g u d w k (ix2 n c) = ∑ e ∈ Finset.range k, if h : e < 8 then
      expert (fun n k => x (ix2 n k)) (fun e q h => g (ix3 e q h)) (fun e q h => u (ix3 e q h)) (fun e h q => d (ix3 e h q)) ⟨e, h⟩ n c
        * w (ix2 n (⟨e, h⟩ : Fin 8)) else 0 := by
    intro k
    induction k with
    | zero => intro _; unfold sumOf; pointwise; try rfl
    | succ k ih =>
      intro hk
      have hk' : k < 8 := hk
      rw [Finset.sum_range_succ, dif_pos hk', ← ih (by omega), ← termOf_at]
      exact congrFun (dif_pos hk' : sumOf (F := Ideal) x g u d w (k + 1) = addf (sumOf (F := Ideal) x g u d w k) (termOf (F := Ideal) k hk' x g u d w)) (ix2 n c)
  rw [h 8 le_rfl, Finset.sum_range]
  unfold mixture
  exact Finset.sum_congr rfl fun e _ => dif_pos e.isLt

end

end Cert.ReferenceIdeal.Body
end
-- ==== Proof.Ideal.SortTwo.lean ====
/-
  The first two entries of a row sorted by decreasing value, equal values by position: the first maximum and the first
  maximum of the rest.
-/
module

public import Idealize.ShloMosaic.Lib.SortPrefix
public import proofs.«01_k».proof.Proof.Ideal.Choice

@[expose] public section

noncomputable section

namespace Cert.MoE

open Idealize.ShloMosaic

/-- A stable sort only compares a later element with an earlier one, so two relations that agree there sort alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- "Strictly greater", and at equal values the earlier position: the order the sort by decreasing value realizes. -/
def beforeOf (g : Fin 8 → EReal) (k k' : Fin 8) : Bool := decide (g k' < g k) || (decide (g k = g k') && decide (k < k'))

theorem beforeOf_total (g : Fin 8 → EReal) : StrictTotalBefore (beforeOf g) :=
  StrictTotalBefore.of_key_then_position (κ := EReal) (fun a b => decide (b < a)) g (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

theorem sortedFrom_greater (g : Fin 8 → EReal) (R : Fin 8 → Fin 8 → Bool) (hR : ∀ k k', R k k' = decide (g k' < g k)) (i : Fin 8) :
    sortedFrom R i = sortedFrom (beforeOf g) i := by
  have hs : sortPositions 8 R = sortPositions 8 (beforeOf g) := by
    refine stableSort_agree _ _ _ ?_
    refine (List.pairwise_lt_finRange 8).imp fun {a b} hab => ?_
    rw [hR]
    unfold beforeOf
    rw [decide_eq_false (not_lt.mpr hab.le)]
    simp
  unfold sortedFrom
  rw [List.get_eq_getElem, List.get_eq_getElem]
  exact List.getElem_of_eq hs _

/-- The first two sources. -/
theorem sortedFrom_two (g : Fin 8 → EReal) (hg : ∀ e, g e ≠ ⊥) (R : Fin 8 → Fin 8 → Bool) (hR : ∀ k k', R k k' = decide (g k' < g k)) :
    sortedFrom R 0 = first g ∧ sortedFrom R 1 = second g := by
  have hne := second_ne g hg
  have hnot : ∀ p q : Fin 8, (g p ≤ g q) → (p < q → g p < g q) → beforeOf g p q = false := fun p q h1 h2 => by
    unfold beforeOf
    rw [Bool.or_eq_false_iff, Bool.and_eq_false_iff]
    refine ⟨decide_eq_false (not_lt.mpr h1), ?_⟩
    by_cases h : p < q
    · exact Or.inl (decide_eq_false (h2 h).ne)
    · exact Or.inr (decide_eq_false h)
  have h := (beforeOf_total g).sortedFrom_eq_of_prefix (k := 2) (by decide) ![first g, second g]
    (by intro i j hij; fin_cases i <;> fin_cases j <;> first | rfl | exact absurd hij.symm hne | exact absurd hij hne)
    (by
      intro i j hij
      fin_cases i <;> fin_cases j <;> first | exact absurd hij (by decide) | skip
      exact hnot _ _ (le_first g _) (lt_first g _))
    (by
      intro i p hp
      have h1 : p ≠ first g := fun h => hp 0 h.symm
      fin_cases i
      · exact hnot _ _ (le_first g p) (lt_first g p)
      · exact hnot _ _ (second_max g hg p h1).1 (second_max g hg p h1).2)
  exact ⟨(sortedFrom_greater g R hR 0).trans (h 0), (sortedFrom_greater g R hR 1).trans (h 1)⟩

end Cert.MoE
end
-- ==== Proof.Ideal.Capacity.lean ====
/-
  Choosing, counting and keeping as words: the one-hot column of a choice, its running count down the tokens, the test
  against the capacity, and the sum of equal shares over the tokens that chose an expert.
-/
module

public import Idealize.ShloMosaic.Lib.Routing.OpsOne
public import Idealize.ShloMosaic.Lib.Routing.OpsPair
public import proofs.«01_k».proof.Proof.Ideal.SortTwo
public import proofs.«01_k».proof.Proof.Ideal.Words

@[expose] public section

noncomputable section

namespace Cert.MoE

open Idealize.ShloMosaic Idealize.ShloMosaic.Routing

/-- The word of a one-hot entry is the number of hits in its row. -/
theorem hot_word (a : Fin 2048 → Fin 8) (n : Fin 2048) (e : Fin 8) :
    BitVec.setWidth 32 (IntOp.cmpi .eq (BitVec.ofNat 32 (a n).val) (BitVec.ofNat 32 e.val)) = BitVec.ofNat 32 (hit a e n.val) := by
  rw [eq_small _ _ (by omega) (by omega), hit_fin]
  by_cases h : a n = e
  · rw [if_pos (congrArg Fin.val h), if_pos h]; rfl
  · rw [if_neg (fun h' => h (Fin.ext h')), if_neg h]; rfl

/-- The hits as a function of two numbers. -/
def hitNat (a : Fin 2048 → Fin 8) (i c : ℕ) : ℕ := if h : c < 8 then hit a ⟨c, h⟩ i else 0

theorem hitNat_fin (a : Fin 2048 → Fin 8) (i : ℕ) (e : Fin 8) : hitNat a i e.val = hit a e i := dif_pos e.isLt

/-- The running sum down a one-hot matrix counts the hits up to and including the row. -/
theorem count_word (a : Fin 2048 → Fin 8) (x : IVec (shape2 2048 8) 32) (hx : ∀ n e, x (ValueIdx.ix2 n e) = BitVec.ofNat 32 (hit a e n.val))
    (init : IVec shape0 32) (hinit : init ValueIdx.ix0 = 0#32)
    (h : (shape2 2048 8).ReduceWindows (![2048, 1] : Fin 2 → Nat) ![1, 1] ![2047, 0] ![0, 0] (shape2 2048 8)) (hu : 0 < shape0.numel)
    (n : Fin 2048) (e : Fin 8) :
    Host.reduceWindow IntOp.addi ![2048, 1] ![1, 1] ![2047, 0] ![0, 0] x init h hu (ValueIdx.ix2 n e) = BitVec.ofNat 32 (tally a e (n.val + 1)) := by
  refine (cumsum_rows (R := 2048) (Rm1 := 2047) (C := 8) (by norm_num) x (hitNat a) (fun i c => (hx i c).trans (congrArg _ (hitNat_fin a i.val c).symm)) init hinit h hu n e).trans ?_
  refine congrArg (BitVec.ofNat 32) ?_
  show _ = ((List.range (n.val + 1)).map fun i => hit a e i).sum
  exact congrArg List.sum (List.map_congr_left fun i _ => hitNat_fin a i e)

/-- The test "chosen, and at most 639 earlier tokens chose it", and the value it selects. -/
theorem keep_word (a : Fin 2048 → Fin 8) (n : Fin 2048) (e : Fin 8) (v z : EReal) :
    Scalar.select (IntOp.andi (IntOp.cmpi .sgt (BitVec.ofNat 32 (hit a e n.val)) 0#32)
        (IntOp.cmpi .slt (IntOp.subi (BitVec.ofNat 32 (tally a e (n.val + 1))) 1#32) 640#32)) v z
      = if a n = e ∧ tally a e (n.val + 1) ≤ 640 then v else z := by
  have hs : tally a e (n.val + 1) = tally a e n.val + hit a e n.val := Finset.sum_range_succ _ _
  have hl := tally_le a e n.val
  rw [hs, hit_fin]
  by_cases h : a n = e
  · have hw : IntOp.subi (BitVec.ofNat 32 (tally a e n.val + 1)) 1#32 = BitVec.ofNat 32 (tally a e n.val) := by
      show BitVec.ofNat 32 (tally a e n.val + 1) - 1#32 = _
      apply BitVec.eq_of_toNat_eq
      simp only [BitVec.toNat_sub, BitVec.toNat_ofNat]
      omega
    rw [if_pos h, hw, slt_small _ 640 (by omega) (by omega)]
    have h1 : IntOp.cmpi .sgt (BitVec.ofNat 32 1) 0#32 = 1#1 := by decide
    rw [h1]
    by_cases ht : tally a e n.val < 640
    · rw [if_pos ht, if_pos ⟨h, ht⟩]; rfl
    · rw [if_neg ht, if_neg fun q => ht q.2]; rfl
  · rw [if_neg h, if_neg fun q => h q.1]
    have h0 : IntOp.cmpi .sgt (BitVec.ofNat 32 0) 0#32 = 0#1 := by decide
    rw [h0]
    have : ∀ b : BitVec 1, IntOp.andi 0#1 b = 0#1 := by decide
    rw [this]; rfl

/-- The hits of all tokens are the tokens that chose the expert. -/
theorem tally_card (a : Fin 2048 → Fin 8) (e : Fin 8) : tally a e 2048 = (Finset.univ.filter fun n => a n = e).card := by
  unfold tally
  rw [← Fin.sum_univ_eq_sum_range (hit a e) 2048, Finset.card_filter]
  exact Finset.sum_congr rfl fun n _ => hit_fin a e n

/-- Equal shares of the tokens that chose an expert add up to their number over all tokens. -/
theorem share_sum (a : Fin 2048 → Fin 8) (e : Fin 8) :
    (∑ n ∈ Finset.univ.filter (fun n => a n = e), ((1 / 2048 : ℝ) : EReal)) = Ideal.div ((tally a e 2048 : ℕ) : EReal) 2048 := by
  rw [Finset.sum_const, ← tally_card]
  have h2 : (2048 : EReal) = ((2048 : ℝ) : EReal) := rfl
  unfold Ideal.div
  rw [h2, if_neg (by norm_num), ← EReal.coe_inv, ← EReal.coe_nsmul, ← EReal.coe_natCast, ← EReal.coe_mul]
  refine congrArg (fun q : ℝ => (q : EReal)) ?_
  rw [nsmul_eq_mul, one_div]

/-- A row sorted by decreasing value starts with its first and second choice. -/
theorem sort_words (g : Fin 8 → EReal) (hg : ∀ e, g e ≠ ⊥) :
    sortedFrom (fun k k' => Ideal.cmp .ogt (g k) (g k') == 1#1) 0 = first g ∧ sortedFrom (fun k k' => Ideal.cmp .ogt (g k) (g k') == 1#1) 1 = second g :=
  sortedFrom_two g hg _ fun k k' => by
    show (BitVec.ofBool (decide (g k' < g k)) == 1#1) = _
    cases decide (g k' < g k) <;> rfl

end Cert.MoE
end
-- ==== Proof.Ideal.RefRouter.lean ====
/-
  The reference's router read at an index: logits, gates, the two choices of each token, the weights and the two losses.
-/
module

public import proofs.«01_k».proof.Proof.Gen.ReferenceIdeal.Read
public import Idealize.ShloMosaic.Lib.Pointwise
public import Idealize.ShloMosaic.Lib.Pointwise.IndexBridge
public import proofs.«01_k».proof.Proof.Ideal.Capacity
public import proofs.«01_k».proof.Proof.Ideal.Words

@[expose] public section

set_option maxRecDepth 16384

noncomputable section

namespace Cert.ReferenceIdeal.Body

open Cert.ReferenceIdeal Cert.ReferenceIdeal.Gen Cert.ReferenceIdeal.Read
open Idealize.ShloMosaic Idealize.ShloMosaic.TcCoe Idealize.SL.Sem
open Cert.MoE

theorem lit_zero : Ideal.ofBits .f32 0x00000000#32 = (0 : EReal) := by simp [Ideal.ofBits, Ideal.ieee]

/-! ## The scattered shares, for any array of positions -/

/-- Where the share of token `n` lands. -/
theorem lands (a : Fin 2048 → Fin 8) (idx : IVec S2048x1 32) (hx : ∀ n, idx (ix2 n 0) = BitVec.ofNat 32 (a n).val) (n : Fin 2048) (e : Fin 8) :
    scatter_S8_S2048x1_S2048_n_0_0_1.resultIdx? (ValueIdx.ix1 n) idx = some (ValueIdx.ix1 e) ↔ a n = e := by
  refine (Routing.resultIdx?_ix1 scatter_S8_S2048x1_S2048_n_0_0_1 (ValueIdx.ix1 n) idx e).trans ?_
  have hw : scatter_S8_S2048x1_S2048_n_0_0_1.window (ValueIdx.ix1 n) 0 = 0 := rfl
  have hs : scatter_S8_S2048x1_S2048_n_0_0_1.start (ValueIdx.ix1 n) idx 0 = (idx (ix2 n 0)).toInt := by
    unfold ScatterDims.start
    rw [dif_pos (show (0 : Fin 1) ∈ scatter_S8_S2048x1_S2048_n_0_0_1.scatterDimsToOperandDims from List.mem_singleton.2 rfl)]
    refine congrArg (fun i => (idx i).toInt) ?_
    funext b
    match b with
    | ⟨0, _⟩ => rfl
    | ⟨1, _⟩ => rfl
  rw [hw, hs, hx n, StableHlo.Predicate.toInt_ofNat_small _ (by omega), Fin.ext_iff]
  omega

/-- What the scatter leaves at an expert: the tokens that chose it over all tokens. -/
theorem shares (a : Fin 2048 → Fin 8) (idx : IVec S2048x1 32) (hx : ∀ n, idx (ix2 n 0) = BitVec.ofNat 32 (a n).val)
    (x : Vec Ideal S8 .f32) (upd : Vec Ideal S2048 .f32) (h0 : ∀ e, x (ix1 e) = (0 : EReal)) (h1 : ∀ n, upd (ix1 n) = ((1 / 2048 : ℝ) : EReal)) (e : Fin 8) :
    Host.scatterAdd (F := Ideal) (φ := .f32) scatter_S8_S2048x1_S2048_n_0_0_1 x idx upd (ix1 e) = Ideal.div ((tally a e 2048 : ℕ) : EReal) 2048 := by
  have he : ∀ {k : ℕ} (q : Fin k), (ix1 q : (⟨1, ![k]⟩ : Shape).Idx) = ValueIdx.ix1 q := fun q => by
    funext b; match b with | ⟨0, _⟩ => rfl
  refine Eq.trans ?_ (share_sum a e)
  show x (ix1 e) + ∑ j ∈ Finset.univ.filter (fun j => scatter_S8_S2048x1_S2048_n_0_0_1.resultIdx? j idx = some (ix1 e)), upd j = _
  rw [h0 e, zero_add, he e]
  refine Finset.sum_nbij' (fun j : S2048.Idx => (j 0 : Fin 2048)) (fun n => ValueIdx.ix1 n) (fun j hj => ?_) (fun n hn => ?_) (fun j _ => ?_) (fun n _ => rfl) (fun j _ => ?_)
  · have hj' := (Finset.mem_filter.mp hj).2
    rw [ValueIdx.eq_ix1 j] at hj'
    exact Finset.mem_filter.mpr ⟨Finset.mem_univ _, (lands a idx hx _ e).1 hj'⟩
  · exact Finset.mem_filter.mpr ⟨Finset.mem_univ _, (lands a idx hx n e).2 (Finset.mem_filter.mp hn).2⟩
  · exact (ValueIdx.eq_ix1 j).symm
  · rw [ValueIdx.eq_ix1 j, ← he]; exact h1 _

section
variable (x0 : Vec Ideal S1x2048x1024 .f32) (x1 : Vec Ideal S1024x8 .f32)

/-- The reference's logits. -/
abbrev rlg : Fin 2048 → Fin 8 → EReal := logits (fun n k => x0 (ix3 (0 : Fin 1) n k)) (fun k e => x1 (ix2 k e))

theorem v1_at (n : Fin 2048) (e : Fin 8) : val_main_v1 (F := Ideal) x0 x1 (ix2 n e) = rlg x0 x1 n e := by
  pointwise [val_main_v1, val_main_v0]
  rfl

/-- The reference's mean square. -/
theorem v32_at (j : S_.Idx) : val_main_v32 (F := Ideal) x0 x1 j = meanSquare (rlg x0 x1) := by
  pointwise [val_main_v32, val_main_v31, val_main_v30, val_main_cst_9, val_main_cst_10]
  simp only [v1_at, lit_16384]
  rfl

/-- The reference's gates. -/
theorem v12_at (n : Fin 2048) (e : Fin 8) : val_main_v12 (F := Ideal) x0 x1 (ix2 n e) = gates (rlg x0 x1 n) e := by
  pointwise [val_main_v12, val_main_v11, val_main_v10, val_main_v9, val_main_v8, val_main_v7, val_main_v6, val_main_v5, val_main_v4, val_main_v3, val_main_v2,
    val_main_cst_0, val_main_cst, val_main_cst_1]
  simp only [v1_at, fold_max, lit_bot, max_eq_right bot_le]
  rfl

/-! ## The two choices, where no gate is minus infinity -/

/-- A position along a row of the gates. -/
theorem along_row (n : Fin 2048) (z k : Fin 8) : Shape.Idx.along (s := S2048x8) (ix2 n z) 1 k = ix2 n k := by
  funext a
  match a with
  | ⟨0, _⟩ => rfl
  | ⟨1, _⟩ => rfl

/-- The order the sort uses in a row is that of the row. -/
theorem row_order (x : Vec Ideal S2048x8 .f32) (n : Fin 2048) (z : Fin 8) :
    (fun k k' : Fin 8 => FloatOps.cmpfTotal (F := Ideal) (φ := .f32) .gt (x (Shape.Idx.along (s := S2048x8) (ix2 n z) 1 k))
        (x (Shape.Idx.along (s := S2048x8) (ix2 n z) 1 k')) == 1#1)
      = fun k k' => Ideal.cmp .ogt (x (ix2 n k)) (x (ix2 n k')) == 1#1 := by
  funext k k'
  rw [along_row, along_row]
  rfl

/-- The source of a place in a row sorted by decreasing value. -/
def source (x : Vec Ideal S2048x8 .f32) (n : Fin 2048) (z : Fin 8) : Fin 8 :=
  sortedFrom (fun k k' => Ideal.cmp .ogt (x (ix2 n k)) (x (ix2 n k')) == 1#1) z

/-- Value and position at a place of a row sorted by decreasing value. -/
theorem sorted_row (x : Vec Ideal S2048x8 .f32) (n : Fin 2048) (z : Fin 8) :
    (Host.sort2 S2048x8 1 (fun l r : Elt Ideal .f32 × BitVec 32 => FloatOps.cmpfTotal (F := Ideal) (φ := .f32) .gt l.1 r.1) x
        (fun i => BitVec.ofNat 32 (i 1).val)).1 (ix2 n z) = x (ix2 n (source x n z))
    ∧ (Host.sort2 S2048x8 1 (fun l r : Elt Ideal .f32 × BitVec 32 => FloatOps.cmpfTotal (F := Ideal) (φ := .f32) .gt l.1 r.1) x
        (fun i => BitVec.ofNat 32 (i 1).val)).2 (ix2 n z) = BitVec.ofNat 32 (source x n z).val := by
  unfold source
  rw [← row_order x n z]
  unfold Host.sort2
  rw [dif_pos (show 1 < S2048x8.rank by decide)]
  dsimp only
  constructor
  · exact congrArg x (along_row n z _)
  · exact congrArg (fun i : S2048x8.Idx => BitVec.ofNat 32 (i 1).val) (along_row n z _)

section
variable (hl : ∀ n e, rlg x0 x1 n e ≠ ⊥ ∧ rlg x0 x1 n e ≠ ⊤)

include hl

/-- The first two sources of a row of the gates are the two choices. -/
theorem source_two (n : Fin 2048) : source (val_main_v12 (F := Ideal) x0 x1) n 0 = first (gates (rlg x0 x1 n))
    ∧ source (val_main_v12 (F := Ideal) x0 x1) n 1 = second (gates (rlg x0 x1 n)) := by
  unfold source
  simp only [v12_at]
  exact sort_words _ (gates_ne_bot (rlg x0 x1 n) (hl n))

theorem values_at (n : Fin 2048) : val_main_values (F := Ideal) x0 x1 (ix2 n 0) = Finset.univ.sup (gates (rlg x0 x1 n))
    ∧ val_main_values (F := Ideal) x0 x1 (ix2 n 1) = Finset.univ.sup (rest (gates (rlg x0 x1 n))) := by
  have hs := source_two x0 x1 hl n
  constructor
  · unfold val_main_values Host.topK
    pointwise
    refine (sorted_row (val_main_v12 (F := Ideal) x0 x1) n 0).1.trans ?_
    rw [hs.1, v12_at]
    exact first_eq _
  · unfold val_main_values Host.topK
    pointwise
    refine (sorted_row (val_main_v12 (F := Ideal) x0 x1) n 1).1.trans ?_
    rw [hs.2, v12_at, sup_rest _ (gates_ne_bot (rlg x0 x1 n) (hl n))]

/-- The first and the second expert of every token. -/
abbrev exp1 : Fin 2048 → Fin 8 := fun n => first (gates (rlg x0 x1 n))
abbrev exp2 : Fin 2048 → Fin 8 := fun n => second (gates (rlg x0 x1 n))

theorem indices_at (n : Fin 2048) : val_main_indices (F := Ideal) x0 x1 (ix2 n 0) = BitVec.ofNat 32 (exp1 x0 x1 n).val
    ∧ val_main_indices (F := Ideal) x0 x1 (ix2 n 1) = BitVec.ofNat 32 (exp2 x0 x1 n).val := by
  have hs := source_two x0 x1 hl n
  constructor
  · unfold val_main_indices Host.topK
    pointwise
    refine (sorted_row (val_main_v12 (F := Ideal) x0 x1) n 0).2.trans ?_
    rw [hs.1]
  · unfold val_main_indices Host.topK
    pointwise
    refine (sorted_row (val_main_v12 (F := Ideal) x0 x1) n 1).2.trans ?_
    rw [hs.2]

/-! ## The weights -/

theorem v35_at (n : Fin 2048) (e : Fin 8) : val_main_v35 (F := Ideal) x0 x1 (ix2 n e) = BitVec.ofNat 32 (hit (exp1 x0 x1) e n.val) := by
  pointwise [val_main_v35, val_main_call0_v4, val_main_call0_v3, val_main_call0_v2, val_main_call0_v1, val_main_call0_v0, val_main_v34, val_main_v33]
  rw [(indices_at x0 x1 hl n).1]
  exact hot_word (exp1 x0 x1) n e

theorem v50_at (n : Fin 2048) (e : Fin 8) : val_main_v50 (F := Ideal) x0 x1 (ix2 n e) = BitVec.ofNat 32 (hit (exp2 x0 x1) e n.val) := by
  pointwise [val_main_v50, val_main_call3_v4, val_main_call3_v3, val_main_call3_v2, val_main_call3_v1, val_main_call3_v0, val_main_v49, val_main_v48]
  rw [(indices_at x0 x1 hl n).2]
  exact hot_word (exp2 x0 x1) n e

theorem v36_at (n : Fin 2048) (e : Fin 8) : val_main_v36 (F := Ideal) x0 x1 (ix2 n e) = BitVec.ofNat 32 (tally (exp1 x0 x1) e (n.val + 1)) := by
  rw [ix2_eq_valueIdx]
  unfold val_main_v36
  exact count_word (exp1 x0 x1) _ (fun n e => by rw [← ix2_eq_valueIdx]; exact v35_at x0 x1 hl n e) _ rfl _ _ n e

theorem v51_at (n : Fin 2048) (e : Fin 8) : val_main_v51 (F := Ideal) x0 x1 (ix2 n e) = BitVec.ofNat 32 (tally (exp2 x0 x1) e (n.val + 1)) := by
  rw [ix2_eq_valueIdx]
  unfold val_main_v51
  exact count_word (exp2 x0 x1) _ (fun n e => by rw [← ix2_eq_valueIdx]; exact v50_at x0 x1 hl n e) _ rfl _ _ n e

theorem v47_at (n : Fin 2048) (e : Fin 8) : val_main_v47 (F := Ideal) x0 x1 (ix2 n e)
    = kept (exp1 x0 x1) (fun n => Finset.univ.sup (gates (rlg x0 x1 n))) n e := by
  pointwise [val_main_v47, val_main_v43, val_main_v42, val_main_v41, val_main_v40, val_main_v39, val_main_v38, val_main_v37, val_main_call2_v1, val_main_call2_v2, val_main_call2_v0,
    val_main_v46, val_main_v45, val_main_v44, val_main_cst_14, val_main_c_13, val_main_c_12, val_main_c_11]
  rw [v35_at x0 x1 hl, v36_at x0 x1 hl, (values_at x0 x1 hl n).1]
  refine (keep_word (exp1 x0 x1) n e _ _).trans ?_
  unfold kept
  exact if_congr Iff.rfl rfl lit_zero

theorem v62_at (n : Fin 2048) (e : Fin 8) : val_main_v62 (F := Ideal) x0 x1 (ix2 n e)
    = kept (exp2 x0 x1) (fun n => Finset.univ.sup (rest (gates (rlg x0 x1 n)))) n e := by
  pointwise [val_main_v62, val_main_v58, val_main_v57, val_main_v56, val_main_v55, val_main_v54, val_main_v53, val_main_v52, val_main_call5_v1, val_main_call5_v2, val_main_call5_v0,
    val_main_v61, val_main_v60, val_main_v59, val_main_cst_18, val_main_c_17, val_main_c_16, val_main_c_15]
  rw [v50_at x0 x1 hl, v51_at x0 x1 hl, (values_at x0 x1 hl n).2]
  refine (keep_word (exp2 x0 x1) n e _ _).trans ?_
  unfold kept
  exact if_congr Iff.rfl rfl lit_zero

/-- The reference's weights. -/
theorem v66_at (n : Fin 2048) (e : Fin 8) : val_main_v66 (F := Ideal) x0 x1 (ix2 n e) = weight (rlg x0 x1) n e := by
  pointwise [val_main_v66, val_main_v65, val_main_v64, val_main_v63, val_main_cst_19]
  simp only [v47_at x0 x1 hl, v62_at x0 x1 hl, Finset.univ_unique, Finset.sum_singleton]
  rfl

/-! ## The load-balance loss -/

theorem v24_at (n : Fin 2048) : val_main_v24 (F := Ideal) x0 x1 (ix2 n 0) = BitVec.ofNat 32 (exp1 x0 x1 n).val := by
  pointwise [val_main_v24, val_main_v23, val_main_v22, val_main_v21, val_main_v20, val_main_v19, val_main_v18, val_main_v17, val_main_c, val_main_c_5]
  rw [(indices_at x0 x1 hl n).1, slt_small _ 0 (by omega) (by omega), if_neg (Nat.not_lt_zero _)]
  rfl

theorem v26_at (e : Fin 8) : val_main_v26 (F := Ideal) x0 x1 (ix1 e) = Ideal.div ((tally (exp1 x0 x1) e 2048 : ℕ) : EReal) 2048 := by
  unfold val_main_v26
  generalize hi : val_main_v24 (F := Ideal) x0 x1 = idx
  have hx : ∀ n, idx (ix2 n 0) = BitVec.ofNat 32 (exp1 x0 x1 n).val := fun n => by rw [← hi]; exact v24_at x0 x1 hl n
  exact shares (exp1 x0 x1) idx hx _ _ (fun e => by pointwise [val_main_v16, val_main_cst_4]; first | done | exact lit_zero)
    (fun n => by pointwise [val_main_v25, val_main_cst_6]; first | done | exact lit_inv2048) e

/-- The reference's load-balance loss. -/
theorem v29_at (j : S_.Idx) : val_main_v29 (F := Ideal) x0 x1 j = balance (rlg x0 x1) := by
  pointwise [val_main_v29, val_main_v28, val_main_v27, val_main_v15, val_main_v14, val_main_v13, val_main_cst_8, val_main_cst_7, val_main_cst_3, val_main_cst_2]
  simp only [v12_at, v26_at x0 x1 hl, lit_8, lit_2048]
  rfl

end
end
end Cert.ReferenceIdeal.Body
end
-- ==== Proof.Ideal.RefResult.lean ====
/-
  The reference's three results are the answer, where the logits are finite.
-/
module

public import proofs.«01_k».proof.Proof.Ideal.RefExperts
public import proofs.«01_k».proof.Proof.Ideal.RefRouter
public import proofs.«01_k».proof.Proof.Ideal.Answer

@[expose] public section

set_option maxRecDepth 16384

noncomputable section

namespace Cert.ReferenceIdeal.Body

open Cert.ReferenceIdeal Cert.ReferenceIdeal.Gen Cert.ReferenceIdeal.Read
open Idealize.ShloMosaic Idealize.ShloMosaic.TcCoe Idealize.SL.Sem
open Cert.MoE

variable (x0 : Vec Ideal S1x2048x1024 .f32) (x1 : Vec Ideal S1024x8 .f32) (x2 x3 : Vec Ideal S8x1024x2752 .f32) (x4 : Vec Ideal S8x2752x1024 .f32)

theorem v0_at (n : Fin 2048) (k : Fin 1024) : val_main_v0 (F := Ideal) x0 (ix2 n k) = x0 (ix3 (0 : Fin 1) n k) := by
  pointwise [val_main_v0]

/-- A matrix read as a stack of one matrix. -/
theorem stack_at (f : Vec Ideal S2048x1024 .f32) (z : Fin 1) (n : Fin 2048) (k : Fin 1024) :
    shapeCast S1x2048x1024 f shapeCasts_S2048x1024_S1x2048x1024 (ix3 z n k) = f (ix2 n k) := by
  pointwise

variable (hl : ∀ n e, rowLogits x0 x1 n e ≠ ⊥ ∧ rowLogits x0 x1 n e ≠ ⊤)
include hl

/-- The reference's output. -/
theorem out_eq : val_main_v188 (F := Ideal) x0 x1 x2 x3 x4 = answer x0 x1 x2 x3 x4 := by
  funext j
  rw [eq_ix3 j, v188_eq]
  refine (stack_at _ _ _ _).trans ((sumOf_at _ _ _ _ _ _ _).trans ?_)
  simp only [v0_at, v66_at x0 x1 hl]
  rfl

theorem balance_eq : val_main_v29 (F := Ideal) x0 x1 = answerBalance x0 x1 := funext fun j => v29_at x0 x1 hl j

omit hl in
theorem square_eq : val_main_v32 (F := Ideal) x0 x1 = answerSquare x0 x1 := funext fun j => v32_at x0 x1 j

end Cert.ReferenceIdeal.Body
end
-- ==== Proof.Whole.Algebraic.lean ====
/-
  Kernel and reference leave the same three results, where the tokens and the router's matrix are finite.
-/
module

public import proofs.«01_k».proof.Defs
public import proofs.«01_k».proof.Proof.Ideal.KernelResult
public import proofs.«01_k».proof.Proof.Ideal.RefResult
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Whole

open Idealize.ShloMosaic Idealize.SL.Sem Cert.MoE

/-- The shape relations the precondition's operations take. -/
theorem pre_facts : Cert.Pre_finite_router.Facts := ⟨by decide, by decide⟩

/-- The precondition makes every logit finite. -/
theorem logits_finite (m : (ℓ : Loc Cert.KernelIdeal.nD Cert.KernelIdeal.τ Cert.KernelIdeal.sig) → Buf (Elt Ideal) ℓ)
    (h : Cert.Pre_KernelIdeal_finite_router (hPre_finite_router := pre_facts) m) (c : Dev Cert.KernelIdeal.nD) (n : Fin 2048) (e : Fin 8) :
    rowLogits (Cert.KernelIdeal.Body.arg0 m c) (Cert.KernelIdeal.Body.arg1 m c) n e ≠ ⊥
      ∧ rowLogits (Cert.KernelIdeal.Body.arg0 m c) (Cert.KernelIdeal.Body.arg1 m c) n e ≠ ⊤ :=
  logits_real _ _ (fun n k => finite_of_abs _ (congrFun (h c).1 (ix3 (0 : Fin 1) n k))) (fun k e => finite_of_abs _ (congrFun (h c).2 (ix2 k e))) n e

open Cert.KernelIdeal.Body in
/-- The equation of the two programs. -/
theorem equal_results : Cert.algebraic_KernelIdeal_ReferenceIdeal_pre_finite_router (hKernelIdeal := Cert.KernelIdeal.Gen.facts)
    (hReferenceIdeal := Cert.ReferenceIdeal.Gen.facts) (hPre_finite_router := pre_facts) := by
  intro m g m' g' hpre hargs
  have hl := logits_finite m hpre
  refine ⟨fun c => answer (arg0 m c) (arg1 m c) (arg2 m c) (arg3 m c) (arg4 m c), fun c => answerBalance (arg0 m c) (arg1 m c),
    fun c => answerSquare (arg0 m c) (arg1 m c), ?_, ?_⟩
  · refine (θ_run _ _ _).mono (fun r h c => ?_) (Cert.KernelIdeal.Body.run_main (F := Ideal) m g)
    obtain ⟨⟨f, hf, h4, h5, h6⟩, hk⟩ := h.1 c
    exact ⟨h4.trans (out_eq m c (hl c) f hf), h5.trans (balance_eq m c f), h6.trans (square_eq m c f), hk⟩
  · refine (θ_run _ _ _).mono (fun r h c => ?_) (Cert.ReferenceIdeal.Value.run (F := Ideal) m' g')
    obtain ⟨h1, h2, h3, hk⟩ := h c
    obtain ⟨a0, a1, a2, a3, a4⟩ := hargs c
    refine ⟨h1.trans ((Cert.ReferenceIdeal.Read.val_main_v188_eq _).trans ?_), h2.trans ((Cert.ReferenceIdeal.Read.val_main_v29_eq _).trans ?_),
      h3.trans ((Cert.ReferenceIdeal.Read.val_main_v32_eq _).trans ?_), hk⟩
    · simp only [StableHlo.launchContents_devRef, a0, a1, a2, a3, a4]
      exact Cert.ReferenceIdeal.Body.out_eq _ _ _ _ _ (hl c)
    · simp only [StableHlo.launchContents_devRef, a0, a1]
      exact Cert.ReferenceIdeal.Body.balance_eq _ _ (hl c)
    · simp only [StableHlo.launchContents_devRef, a0, a1]
      exact Cert.ReferenceIdeal.Body.square_eq _ _

end Cert.Whole
end
-- ==== Proof.lean ====
/-
  The proof of the certificate's claim, assembled from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Whole.Frames
public import proofs.«01_k».proof.Proof.Whole.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Whole.pre_facts,
  fun m g _ => Cert.Whole.kernel_frame m g, fun m g _ => Cert.Whole.kernelIdeal_frame m g, fun m g _ => Cert.Whole.kernelIdeal_frame m g,
  fun m g _ => Cert.Whole.reference_frame m g, fun m g _ => Cert.Whole.reference_frame m g, trivial, Cert.Whole.equal_results⟩

end Cert.Proof

end
